-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather [hPre_idx_in_rows : Cert.Pre_idx_in_rows.Facts] (m : (ℓ : Loc Cert.Gather.nD Cert.Gather.τ Cert.Gather.sig) → Buf (Elt Bits) ℓ) : Prop :=
  ∀ c : Dev Cert.Gather.nD,
    (Cert.Pre_idx_in_rows.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherReference [hPre_idx_in_rows : Cert.Pre_idx_in_rows.Facts] (m : (ℓ : Loc Cert.GatherReference.nD Cert.GatherReference.τ Cert.GatherReference.sig) → Buf (Elt Bits) ℓ) : Prop :=
  ∀ c : Dev Cert.GatherReference.nD,
    (Cert.Pre_idx_in_rows.fn (F := Bits) (m ((c.tc : Thread Cert.GatherReference.nD Cert.GatherReference.τ).loc Cert.GatherReference.main_arg0)) (m ((c.tc : Thread Cert.GatherReference.nD Cert.GatherReference.τ).loc Cert.GatherReference.main_arg1))) = (fun _ => 1#1)

def Pre_Scan (m : (ℓ : Loc Cert.Scan.nD Cert.Scan.τ Cert.Scan.sig) → Buf (Elt Bits) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Gather [hGather : Cert.Gather.Facts] [hPre_idx_in_rows : Cert.Pre_idx_in_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherReference [hGatherReference : Cert.GatherReference.Facts] [hPre_idx_in_rows : Cert.Pre_idx_in_rows.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Gather_GatherReference [hGather : Cert.Gather.Facts] [hGatherReference : Cert.GatherReference.Facts] [hPre_idx_in_rows : Cert.Pre_idx_in_rows.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m' ((c.tc : Thread Cert.GatherReference.nD Cert.GatherReference.τ).loc Cert.GatherReference.main_arg0) = m ((c.tc : Thread Cert.Gather.nD Cert.Gather.τ).loc Cert.Gather.main_arg0)
      ∧ m' ((c.tc : Thread Cert.GatherReference.nD Cert.GatherReference.τ).loc Cert.GatherReference.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v2)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v2) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherReference.defs (F := Bits)) (onTc (τ := Cert.GatherReference.τ) (Cert.GatherReference.main (F := Bits))) ⟨m', fun _ => 0, g'⟩ (fun r => ∀ c : Dev Cert.GatherReference.nD,
          r.2.mem ((c.tc : Thread Cert.GatherReference.nD Cert.GatherReference.τ).loc Cert.GatherReference.main_v0) = v0 c
          ∧ r.2.mem ((c.tc : Thread Cert.GatherReference.nD Cert.GatherReference.τ).loc Cert.GatherReference.main_arg0) = m' ((c.tc : Thread Cert.GatherReference.nD Cert.GatherReference.τ).loc Cert.GatherReference.main_arg0)
          ∧ r.2.mem ((c.tc : Thread Cert.GatherReference.nD Cert.GatherReference.τ).loc Cert.GatherReference.main_arg1) = m' ((c.tc : Thread Cert.GatherReference.nD Cert.GatherReference.τ).loc Cert.GatherReference.main_arg1))

def Claim : Prop :=
  ∃ (hKernelIdeal : Cert.KernelIdeal.Facts) (hReferenceIdeal : Cert.ReferenceIdeal.Facts) (hGather : Cert.Gather.Facts) (hGatherReference : Cert.GatherReference.Facts) (hScan : Cert.Scan.Facts) (hPre_idx_in_rows : Cert.Pre_idx_in_rows.Facts),
    quiescent_KernelIdeal (hKernelIdeal := hKernelIdeal)
    ∧ quiescent_ReferenceIdeal (hReferenceIdeal := hReferenceIdeal)
    ∧ quiescent_Gather (hGather := hGather) (hPre_idx_in_rows := hPre_idx_in_rows)
    ∧ quiescent_GatherReference (hGatherReference := hGatherReference) (hPre_idx_in_rows := hPre_idx_in_rows)
    ∧ quiescent_Scan (hScan := hScan)
    ∧ algebraic_KernelIdeal_ReferenceIdeal (hKernelIdeal := hKernelIdeal) (hReferenceIdeal := hReferenceIdeal)
    ∧ bitexact_Gather_GatherReference (hGather := hGather) (hGatherReference := hGatherReference) (hPre_idx_in_rows := hPre_idx_in_rows)
-- ==== Pre_idx_in_rows.lean ====
abbrev S65536x8 : Shape := ⟨2, ![65536, 8]⟩
abbrev S2048 : Shape := ⟨1, ![2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S65536x8 .f32) (main_arg1 : IVec S2048 32) : IVec S2048 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 65536#32
  let main_v2 : IVec S2048 32 := broadcastInDim S2048 ![] bcast_S_S2048 main_c_0
  let main_v3 : IVec S2048 1 := cmpi .slt main_arg1 main_v2
  let main_v4 : IVec S2048 1 := andi main_v1 main_v3
  main_v4
-- ==== KernelIdeal.lean ====
abbrev S2048x8 : Shape := ⟨2, ![2048, 8]⟩
abbrev S65536x8 : Shape := ⟨2, ![65536, 8]⟩
abbrev S65536 : Shape := ⟨1, ![65536]⟩
abbrev S_ : Shape := ⟨0, ![]⟩
abbrev S2048x1 : Shape := ⟨2, ![2048, 1]⟩
abbrev S2048x9 : Shape := ⟨2, ![2048, 9]⟩
abbrev S65536x1 : Shape := ⟨2, ![65536, 1]⟩
abbrev S65536x9 : Shape := ⟨2, ![65536, 9]⟩
abbrev S4096x9 : Shape := ⟨2, ![4096, 9]⟩
abbrev S1024x9 : Shape := ⟨2, ![1024, 9]⟩
abbrev S2048x1024 : Shape := ⟨2, ![2048, 1024]⟩
abbrev S2048 : Shape := ⟨1, ![2048]⟩
abbrev S4096x128 : Shape := ⟨2, ![4096, 128]⟩
abbrev S16384 : Shape := ⟨1, ![16384]⟩
abbrev S64 : Shape := ⟨1, ![64]⟩
abbrev S64x128 : Shape := ⟨2, ![64, 128]⟩
abbrev S512 : Shape := ⟨1, ![512]⟩
abbrev S16 : Shape := ⟨1, ![16]⟩

abbrev nBuf : Table → Nat
  | .hbm => 14
  | .local .tc .vmem => 5
  | .local .scVector .vmem => 4
  | _ => 0

abbrev bufTy : (tb : Table) → Fin (nBuf tb) → BufTy
  | .hbm, ⟨0, _⟩ => ⟨S2048x8, .f32⟩
  | .hbm, ⟨1, _⟩ => ⟨S65536x8, .f32⟩
  | .hbm, ⟨2, _⟩ => ⟨S65536, .f32⟩
  | .hbm, ⟨3, _⟩ => ⟨S2048x8, .f32⟩
  | .hbm, ⟨4, _⟩ => ⟨S_, .f32⟩
  | .hbm, ⟨5, _⟩ => ⟨S2048x1, .f32⟩
  | .hbm, ⟨6, _⟩ => ⟨S2048x9, .f32⟩
  | .hbm, ⟨7, _⟩ => ⟨S65536x1, .f32⟩
  | .hbm, ⟨8, _⟩ => ⟨S65536x9, .f32⟩
  | .hbm, ⟨9, _⟩ => ⟨S2048x1, .i32⟩
  | .hbm, ⟨10, _⟩ => ⟨S2048, .i32⟩
  | .hbm, ⟨11, _⟩ => ⟨S4096x128, .f32⟩
  | .hbm, ⟨12, _⟩ => ⟨S16384, .f32⟩
  | .hbm, ⟨13, _⟩ => ⟨S2048x8, .f32⟩
  | .local .tc .vmem, ⟨0, _⟩ => ⟨S2048x9, .f32⟩
  | .local .tc .vmem, ⟨1, _⟩ => ⟨S4096x9, .f32⟩
  | .local .tc .vmem, ⟨2, _⟩ => ⟨S4096x9, .f32⟩
  | .local .tc .vmem, ⟨3, _⟩ => ⟨S2048x1, .i32⟩
  | .local .tc .vmem, ⟨4, _⟩ => ⟨S2048x1, .f32⟩
  | .local .scVector .vmem, ⟨0, _⟩ => ⟨S64, .i32⟩
  | .local .scVector .vmem, ⟨1, _⟩ => ⟨S64, .i32⟩
  | .local .scVector .vmem, ⟨2, _⟩ => ⟨S64x128, .f32⟩
  | .local .scVector .vmem, ⟨3, _⟩ => ⟨S512, .f32⟩
  | _, _ => ⟨S2048x8, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => true
  | ⟨1, _⟩ => true
  | ⟨2, _⟩ => true
  | ⟨3, _⟩ => true
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v7_scv : Ref sig .scVector := ⟨.hbm, 11, rfl⟩
abbrev main_v6_scv : Ref sig .scVector := ⟨.hbm, 10, rfl⟩
abbrev main_v8_scv : Ref sig .scVector := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem1_1 : DmaSem sig := 2
abbrev cc0_sem2_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_24 : BitVec 32 := 0#32
  let v83 : BitVec 1 := Scalar.cmpi .eq arg0 c0_i32_24
  let v84 : BitVec 32 := Scalar.extui v83
  let c0_i32_25 : BitVec 32 := 0#32
  let v85 : BitVec 1 := Scalar.cmpi .ne v84 c0_i32_25
  v85

def k0_cond2 (i : grid0.Coords) : BitVec 1 :=
  let arg0 : BitVec 32 := BitVec.ofNat 32 (i 0).val
  let c0_i32_26 : BitVec 32 := 0#32
  let v86 : BitVec 1 := Scalar.cmpi .sgt arg0 c0_i32_26
  let v87 : BitVec 32 := Scalar.extui v86
  let c0_i32_27 : BitVec 32 := 0#32
  let v88 : BitVec 1 := Scalar.cmpi .ne v87 c0_i32_27
  v88

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x9 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
@[reducible] def k1_t1_loop : Scf.Loop 32 :=
  let c0_i32_11 : BitVec 32 := 0#32
  let c32_i32 : BitVec 32 := 32#32
  let v21 : BitVec 32 := Scalar.addi c0_i32_11 c32_i32
  let c1_i32 : BitVec 32 := 1#32
  ⟨c0_i32_11, v21, c1_i32⟩

def k1_chk1 (v28 : IVec S16 32) : Prop :=
  (∀ a x, ((![v28] : Fin 1 → IVec S16 32) a x).toNat < S64.size a)
theorem k1_idx1_inb : ∀ (v28 : IVec S16 32) (k1_hw1 : k1_chk1 v28), ∀ a x, ((![v28] : Fin 1 → IVec S16 32) a x).toNat < S64.size a := fun v28 k1_hw1 => k1_hw1

def k1_chk2 (v28 : IVec S16 32) (v36 : IVec S16 32) : Prop :=
  (∀ a x, ((![v28, v36] : Fin 2 → IVec S16 32) a x).toNat < S64x128.size a)
theorem k1_idx2_inb : ∀ (v28 : IVec S16 32) (v36 : IVec S16 32) (k1_hw2 : k1_chk2 v28 v36), ∀ a x, ((![v28, v36] : Fin 2 → IVec S16 32) a x).toNat < S64x128.size a := fun v28 v36 k1_hw2 => k1_hw2
def k1_off2 (k1_t1 : Fin k1_t1_loop.trips) : Fin 1 → Nat :=
  let c0_i32_11 : BitVec 32 := 0#32
  let c1_i32 : BitVec 32 := 1#32
  let arg10 : BitVec 32 := Scf.iv c0_i32_11 c1_i32 k1_t1
  let c16_i32_14 : BitVec 32 := 16#32
  let v38 : BitVec 32 := Scalar.muli arg10 c16_i32_14
  let v39 : Index := Scalar.indexCast v38
  ![v39.toNat]
def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32 : BitVec 32 := 8#32
  let v22 : BitVec 32 := Scalar.muli v2 c8_i32
  ![v22.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x8 : Shape := ⟨2, ![2048, 8]⟩
abbrev S65536x8 : Shape := ⟨2, ![65536, 8]⟩
abbrev S65536 : Shape := ⟨1, ![65536]⟩
abbrev S8x65536 : Shape := ⟨2, ![8, 65536]⟩
abbrev S2048x65536 : Shape := ⟨2, ![2048, 65536]⟩
abbrev S_ : Shape := ⟨0, ![]⟩
abbrev S1x65536 : Shape := ⟨2, ![1, 65536]⟩
abbrev S2048 : Shape := ⟨1, ![2048]⟩
abbrev S2048x1 : Shape := ⟨2, ![2048, 1]⟩
abbrev S1 : Shape := ⟨1, ![1]⟩
abbrev S1x1 : Shape := ⟨2, ![1, 1]⟩

abbrev nBuf : Space → Nat
  | .hbm => 39
  | .vmem => 0
  | .smem => 0
  | _ => 0

abbrev bufTy : (tb : Table) → Fin (tcTables nBuf tb) → BufTy
  | .hbm, ⟨0, _⟩ => ⟨S2048x8, .f32⟩
  | .hbm, ⟨1, _⟩ => ⟨S65536x8, .f32⟩
  | .hbm, ⟨2, _⟩ => ⟨S65536, .f32⟩
  | .hbm, ⟨3, _⟩ => ⟨S8x65536, .f32⟩
  | .hbm, ⟨4, _⟩ => ⟨S2048x65536, .f32⟩
  | .hbm, ⟨5, _⟩ => ⟨S_, .f32⟩
  | .hbm, ⟨6, _⟩ => ⟨S2048x65536, .f32⟩
  | .hbm, ⟨7, _⟩ => ⟨S2048x65536, .f32⟩
  | .hbm, ⟨8, _⟩ => ⟨S1x65536, .f32⟩
  | .hbm, ⟨9, _⟩ => ⟨S2048x65536, .f32⟩
  | .hbm, ⟨10, _⟩ => ⟨S2048x65536, .f32⟩
  | .hbm, ⟨11, _⟩ => ⟨S2048x65536, .i32⟩
  | .hbm, ⟨12, _⟩ => ⟨S_, .f32⟩
  | .hbm, ⟨13, _⟩ => ⟨S_, .i32⟩
  | .hbm, ⟨14, _⟩ => ⟨S2048, .f32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S2048x1, .i32⟩
  | .hbm, ⟨24, _⟩ => ⟨S1, .i32⟩
  | .hbm, ⟨25, _⟩ => ⟨S_, .i32⟩
  | .hbm, ⟨26, _⟩ => ⟨S2048x1, .i32⟩
  | .hbm, ⟨27, _⟩ => ⟨S2048x1, .i1⟩
  | .hbm, ⟨28, _⟩ => ⟨S1x1, .i32⟩
  | .hbm, ⟨29, _⟩ => ⟨S2048x1, .i32⟩
  | .hbm, ⟨30, _⟩ => ⟨S2048x1, .i1⟩
  | .hbm, ⟨31, _⟩ => ⟨S2048x1, .i1⟩
  | .hbm, ⟨32, _⟩ => ⟨S_, .i1⟩
  | .hbm, ⟨33, _⟩ => ⟨S2048, .i1⟩
  | .hbm, ⟨34, _⟩ => ⟨S2048x8, .f32⟩
  | .hbm, ⟨35, _⟩ => ⟨S2048x8, .i1⟩
  | .hbm, ⟨36, _⟩ => ⟨S_, .f32⟩
  | .hbm, ⟨37, _⟩ => ⟨S2048x8, .f32⟩
  | .hbm, ⟨38, _⟩ => ⟨S2048x8, .f32⟩
  | _, _ => ⟨S2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_cst : Ref sig .tc := ⟨.hbm, 12, rfl⟩
abbrev main_call0_c : Ref sig .tc := ⟨.hbm, 13, rfl⟩
abbrev main_call0_v1_0 : Ref sig .tc := ⟨.hbm, 14, rfl⟩
abbrev main_v7 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_call1_cst : Ref sig .tc := ⟨.hbm, 36, rfl⟩
abbrev main_call1_v15 : Ref sig .tc := ⟨.hbm, 37, rfl⟩
abbrev main_v8 : Ref sig .tc := ⟨.hbm, 38, rfl⟩

abbrev nD : Nat := 1
abbrev τ : Topo := Topo.v7x

variable {F : FTy → Type} [FloatOps F]
-- ==== Gather.lean ====
abbrev S65536x8 : Shape := ⟨2, ![65536, 8]⟩
abbrev S2048 : Shape := ⟨1, ![2048]⟩
abbrev S4096x128 : Shape := ⟨2, ![4096, 128]⟩
abbrev S16384 : Shape := ⟨1, ![16384]⟩
abbrev S64 : Shape := ⟨1, ![64]⟩
abbrev S64x128 : Shape := ⟨2, ![64, 128]⟩
abbrev S512 : Shape := ⟨1, ![512]⟩
abbrev S_ : Shape := ⟨0, ![]⟩
abbrev S16 : Shape := ⟨1, ![16]⟩
abbrev S2048x8 : Shape := ⟨2, ![2048, 8]⟩

abbrev nBuf : Table → Nat
  | .hbm => 5
  | .local .scVector .vmem => 4
  | _ => 0

abbrev bufTy : (tb : Table) → Fin (nBuf tb) → BufTy
  | .hbm, ⟨0, _⟩ => ⟨S65536x8, .f32⟩
  | .hbm, ⟨1, _⟩ => ⟨S2048, .i32⟩
  | .hbm, ⟨2, _⟩ => ⟨S4096x128, .f32⟩
  | .hbm, ⟨3, _⟩ => ⟨S16384, .f32⟩
  | .hbm, ⟨4, _⟩ => ⟨S2048x8, .f32⟩
  | .local .scVector .vmem, ⟨0, _⟩ => ⟨S64, .i32⟩
  | .local .scVector .vmem, ⟨1, _⟩ => ⟨S64, .i32⟩
  | .local .scVector .vmem, ⟨2, _⟩ => ⟨S64x128, .f32⟩
  | .local .scVector .vmem, ⟨3, _⟩ => ⟨S512, .f32⟩
  | _, _ => ⟨S65536x8, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
@[reducible] def k0_t1_loop : Scf.Loop 32 :=
  let c0_i32_11 : BitVec 32 := 0#32
  let c32_i32 : BitVec 32 := 32#32
  let v21 : BitVec 32 := Scalar.addi c0_i32_11 c32_i32
  let c1_i32 : BitVec 32 := 1#32
  ⟨c0_i32_11, v21, c1_i32⟩

def k0_chk1 (v28 : IVec S16 32) : Prop :=
  (∀ a x, ((![v28] : Fin 1 → IVec S16 32) a x).toNat < S64.size a)
theorem k0_idx1_inb : ∀ (v28 : IVec S16 32) (k0_hw1 : k0_chk1 v28), ∀ a x, ((![v28] : Fin 1 → IVec S16 32) a x).toNat < S64.size a := fun v28 k0_hw1 => k0_hw1

def k0_chk2 (v28 : IVec S16 32) (v36 : IVec S16 32) : Prop :=
  (∀ a x, ((![v28, v36] : Fin 2 → IVec S16 32) a x).toNat < S64x128.size a)
theorem k0_idx2_inb : ∀ (v28 : IVec S16 32) (v36 : IVec S16 32) (k0_hw2 : k0_chk2 v28 v36), ∀ a x, ((![v28, v36] : Fin 2 → IVec S16 32) a x).toNat < S64x128.size a := fun v28 v36 k0_hw2 => k0_hw2
def k0_off2 (k0_t1 : Fin k0_t1_loop.trips) : Fin 1 → Nat :=
  let c0_i32_11 : BitVec 32 := 0#32
  let c1_i32 : BitVec 32 := 1#32
  let arg10 : BitVec 32 := Scf.iv c0_i32_11 c1_i32 k0_t1
  let c16_i32_14 : BitVec 32 := 16#32
  let v38 : BitVec 32 := Scalar.muli arg10 c16_i32_14
  let v39 : Index := Scalar.indexCast v38
  ![v39.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32 : BitVec 32 := 8#32
  let v22 : BitVec 32 := Scalar.muli v2 c8_i32
  ![v22.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReference.lean ====
abbrev S65536x8 : Shape := ⟨2, ![65536, 8]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S2048x8 : Shape := ⟨2, ![2048, 8]⟩

abbrev nBuf : Space → Nat
  | .hbm => 25
  | .vmem => 0
  | .smem => 0
  | _ => 0

abbrev bufTy : (tb : Table) → Fin (tcTables nBuf tb) → BufTy
  | .hbm, ⟨0, _⟩ => ⟨S65536x8, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S1, .i32⟩
  | .hbm, ⟨11, _⟩ => ⟨S_, .i32⟩
  | .hbm, ⟨12, _⟩ => ⟨S2048x1, .i32⟩
  | .hbm, ⟨13, _⟩ => ⟨S2048x1, .i1⟩
  | .hbm, ⟨14, _⟩ => ⟨S1x1, .i32⟩
  | .hbm, ⟨15, _⟩ => ⟨S2048x1, .i32⟩
  | .hbm, ⟨16, _⟩ => ⟨S2048x1, .i1⟩
  | .hbm, ⟨17, _⟩ => ⟨S2048x1, .i1⟩
  | .hbm, ⟨18, _⟩ => ⟨S_, .i1⟩
  | .hbm, ⟨19, _⟩ => ⟨S2048, .i1⟩
  | .hbm, ⟨20, _⟩ => ⟨S2048x8, .f32⟩
  | .hbm, ⟨21, _⟩ => ⟨S2048x8, .i1⟩
  | .hbm, ⟨22, _⟩ => ⟨S_, .f32⟩
  | .hbm, ⟨23, _⟩ => ⟨S2048x8, .f32⟩
  | .hbm, ⟨24, _⟩ => ⟨S2048x8, .f32⟩
  | _, _ => ⟨S65536x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Scan.lean ====
abbrev S2048x8 : Shape := ⟨2, ![2048, 8]⟩
abbrev S65536x8 : Shape := ⟨2, ![65536, 8]⟩
abbrev S65536 : Shape := ⟨1, ![65536]⟩
abbrev S_ : Shape := ⟨0, ![]⟩
abbrev S2048x1 : Shape := ⟨2, ![2048, 1]⟩
abbrev S2048x9 : Shape := ⟨2, ![2048, 9]⟩
abbrev S65536x1 : Shape := ⟨2, ![65536, 1]⟩
abbrev S65536x9 : Shape := ⟨2, ![65536, 9]⟩
abbrev S4096x9 : Shape := ⟨2, ![4096, 9]⟩
abbrev S1024x9 : Shape := ⟨2, ![1024, 9]⟩
abbrev S2048x1024 : Shape := ⟨2, ![2048, 1024]⟩
abbrev S2048 : Shape := ⟨1, ![2048]⟩

abbrev nBuf : Space → Nat
  | .hbm => 11
  | .vmem => 5
  | .smem => 0
  | _ => 0

abbrev bufTy : (tb : Table) → Fin (tcTables nBuf tb) → BufTy
  | .hbm, ⟨0, _⟩ => ⟨S2048x8, .f32⟩
  | .hbm, ⟨1, _⟩ => ⟨S65536x8, .f32⟩
  | .hbm, ⟨2, _⟩ => ⟨S65536, .f32⟩
  | .hbm, ⟨3, _⟩ => ⟨S2048x8, .f32⟩
  | .hbm, ⟨4, _⟩ => ⟨S_, .f32⟩
  | .hbm, ⟨5, _⟩ => ⟨S2048x1, .f32⟩
  | .hbm, ⟨6, _⟩ => ⟨S2048x9, .f32⟩
  | .hbm, ⟨7, _⟩ => ⟨S65536x1, .f32⟩
  | .hbm, ⟨8, _⟩ => ⟨S65536x9, .f32⟩
  | .hbm, ⟨9, _⟩ => ⟨S2048x1, .i32⟩
  | .hbm, ⟨10, _⟩ => ⟨S2048, .i32⟩
  | .local _ .vmem, ⟨0, _⟩ => ⟨S2048x9, .f32⟩
  | .local _ .vmem, ⟨1, _⟩ => ⟨S4096x9, .f32⟩
  | .local _ .vmem, ⟨2, _⟩ => ⟨S4096x9, .f32⟩
  | .local _ .vmem, ⟨3, _⟩ => ⟨S2048x1, .i32⟩
  | .local _ .vmem, ⟨4, _⟩ => ⟨S2048x1, .f32⟩
  | _, _ => ⟨S2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_24 : BitVec 32 := 0#32
  let v83 : BitVec 1 := Scalar.cmpi .eq arg0 c0_i32_24
  let v84 : BitVec 32 := Scalar.extui v83
  let c0_i32_25 : BitVec 32 := 0#32
  let v85 : BitVec 1 := Scalar.cmpi .ne v84 c0_i32_25
  v85

def k0_cond2 (i : grid0.Coords) : BitVec 1 :=
  let arg0 : BitVec 32 := BitVec.ofNat 32 (i 0).val
  let c0_i32_26 : BitVec 32 := 0#32
  let v86 : BitVec 1 := Scalar.cmpi .sgt arg0 c0_i32_26
  let v87 : BitVec 32 := Scalar.extui v86
  let c0_i32_27 : BitVec 32 := 0#32
  let v88 : BitVec 1 := Scalar.cmpi .ne v87 c0_i32_27
  v88

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x9 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Proof.GatherTile.lean ====
/-
  One task of the SparseCore call, with what it writes. A task copies its 64 entries of the index list into its
  scratch, shifts each right by four into a list of table rows, gathers those rows (128 elements each: sixteen rows of
  eight), picks from each the eight elements the index's low four bits name, and copies the 512 elements out. The
  statement is over any index list and table: every entry of the list below 65536, the task's block of the result ends
  at `outVal`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Writes
public import Idealize.ShloMosaic.Lib.Tactic
public import proofs.«01_k».proof.Proof.Gen.Gather
public import proofs.«01_k».proof.Proof.Gen.Gather.Skeleton

@[expose] public section

noncomputable section

namespace Cert.Proof.Gather

open Cert.Gather Cert.Gather.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-! ## The arrays and the scratch -/

abbrev iLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

local notation "iV" => (Memref.whole Cert.Gather.main_arg1_scv : Memref Cert.Gather.sig Kind.scVector Space.hbm Cert.Gather.S2048 EltTy.i32)
local notation "tV" => (Memref.whole Cert.Gather.main_v0_scv : Memref Cert.Gather.sig Kind.scVector Space.hbm Cert.Gather.S4096x128 EltTy.f32)
local notation "oV" => (Memref.whole Cert.Gather.main_v1_scv : Memref Cert.Gather.sig Kind.scVector Space.hbm Cert.Gather.S16384 EltTy.f32)
local notation "aV" => (Memref.whole Cert.Gather.cc0_scratch0 : Memref Cert.Gather.sig Kind.scVector Space.vmem Cert.Gather.S64 EltTy.i32)
local notation "rV" => (Memref.whole Cert.Gather.cc0_scratch1 : Memref Cert.Gather.sig Kind.scVector Space.vmem Cert.Gather.S64 EltTy.i32)
local notation "gV" => (Memref.whole Cert.Gather.cc0_scratch2 : Memref Cert.Gather.sig Kind.scVector Space.vmem Cert.Gather.S64x128 EltTy.f32)
local notation "uV" => (Memref.whole Cert.Gather.cc0_scratch3 : Memref Cert.Gather.sig Kind.scVector Space.vmem Cert.Gather.S512 EltTy.f32)

theorem odiv : 32 ∣ S16384.size 0 := ⟨512, rfl⟩
/-- Block `w` of the result: 512 elements. -/
abbrev orow (w : Fin 32) : Rect S16384 := Rect.part (s := S16384) (a₀ := 0) odiv w
abbrev oSet (w : Fin 32) : Finset S16384.Idx := ((oV).view.slice (orow w)).set

/-- Element `n` of a list of 2048. -/
abbrev i1 (n : ℕ) (h : n < 2048) : S2048.Idx := fun | 0 => ⟨n, h⟩
/-- Row `r`, lane `c` of the table. -/
abbrev t2 (r c : ℕ) (hr : r < 4096) (hc : c < 128) : S4096x128.Idx := fun | 0 => ⟨r, hr⟩ | 1 => ⟨c, hc⟩

/-- Element `n` of the result: element `n % 8` of the row of eight that entry `n / 8` of the list names, found in the
    table of rows of 128 at row `entry / 16`, lane `8 · (entry % 16) + n % 8`. -/
def pick {α : Type} (ix : S2048.Idx → BitVec 32) (tb : S4096x128.Idx → α) (n : ℕ) (h : n < 16384) : α :=
  tb (t2 ((ix (i1 (n / 8) (by omega))).toNat / 16 % 4096) ((ix (i1 (n / 8) (by omega))).toNat % 16 * 8 + n % 8)
    (Nat.mod_lt _ (by decide)) (by omega))

def outVal {α : Type} (ix : S2048.Idx → BitVec 32) (tb : S4096x128.Idx → α) : S16384.Idx → α :=
  fun j => pick ix tb (j 0).val (j 0).isLt

/-! ## Read shares: a share halved `n` times -/

/-- Part `i` of the share `q` halved `n` times. -/
def shr : (n : ℕ) → PosShare TreeShare → Fin (2 ^ n) → PosShare TreeShare
  | 0, q, _ => q
  | n + 1, q, i => if i.val % 2 = 0 then shr n q.left ⟨i.val / 2, by have := i.isLt; omega⟩ else shr n q.right ⟨i.val / 2, by have := i.isLt; omega⟩

/-- A number below `2 ^ (n + 1)` is its half and its parity. -/
def halfEquiv (n : ℕ) : Fin (2 ^ n) ⊕ Fin (2 ^ n) ≃ Fin (2 ^ (n + 1)) where
  toFun := Sum.elim (fun i => ⟨2 * i.val, by have := i.isLt; omega⟩) (fun i => ⟨2 * i.val + 1, by have := i.isLt; omega⟩)
  invFun i := if i.val % 2 = 0 then .inl ⟨i.val / 2, by have := i.isLt; omega⟩ else .inr ⟨i.val / 2, by have := i.isLt; omega⟩
  left_inv := by
    rintro (i | i)
    · simp
    · have h : (2 * i.val + 1) % 2 ≠ 0 := by omega
      simp only [Sum.elim_inr, h, if_false]
      congr 1; ext; simp; omega
  right_inv i := by
    by_cases h : i.val % 2 = 0
    · simp only [h, if_true, Sum.elim_inl]; ext; simp; omega
    · simp only [h, if_false, Sum.elim_inr]; ext; simp; omega

theorem shr_inl (n : ℕ) (q : PosShare TreeShare) (i : Fin (2 ^ n)) : shr (n + 1) q (halfEquiv n (.inl i)) = shr n q.left i := by
  simp [shr, halfEquiv]
theorem shr_inr (n : ℕ) (q : PosShare TreeShare) (i : Fin (2 ^ n)) : shr (n + 1) q (halfEquiv n (.inr i)) = shr n q.right i := by
  have h : (2 * i.val + 1) % 2 ≠ 0 := by omega
  have e : (2 * i.val + 1) / 2 = i.val := by omega
  simp only [shr, halfEquiv, Equiv.coe_fn_mk, Sum.elim_inr, h, if_false, e]

/-- A buffer held at a share is held at every part of it. -/
theorem pointsTo_shr {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{shr n q i} f
  | 0, q => (bigSep_univ_of_subsingleton (0 : Fin 1) (Φ := fun i : Fin (2 ^ 0) => (ℓ ↦[I]{shr 0 q i} f : sProp 𝕄))).symm
  | n + 1, q => by
    rw [bigSep_univ_equiv (halfEquiv n) (fun i : Fin (2 ^ (n + 1)) => (ℓ ↦[I]{shr (n + 1) q i} f : sProp 𝕄)), bigSep_univ_sum]
    simp only [shr_inl, shr_inr]
    rw [← pointsTo_shr I f n q.left, ← pointsTo_shr I f n q.right]
    exact BI.Entails.antisymm (pointsTo_share (PosShare.mem_left_op_right q)).1 (pointsTo_share (PosShare.mem_left_op_right q)).2

/-- Task `w`'s share of what every task reads. -/
abbrev shq (w : Fin 32) : PosShare TreeShare := shr 5 fullShare w

variable [FloatOps F]

/-! ## The task -/

section Tile

variable (ix : (d : Dev nD) → Buf (Elt F) (iLoc d)) (tb : (d : Dev nD) → Buf (Elt F) (tLoc d))

/-- Every entry of the index list names a row of eight. -/
def InRows : Prop := ∀ (d : Dev nD) (j : S2048.Idx), (ix d j).toNat < 65536

variable (d : Dev nD) (L : grid0.Coords)

abbrev cV (L : grid0.Coords) : Fin τ.nSC := (L 0).castLE hcore0
abbrev jV (L : grid0.Coords) : Fin τ.nSub := (L 1).castLE hsub0
/-- The task's number: twice its subcore's and its SparseCore's. -/
abbrev wid (L : grid0.Coords) : Fin 32 :=
  ⟨2 * (L 1).val + (L 0).val, by have h0 : (L 0).val < 2 := (L 0).isLt; have h1 : (L 1).val < 16 := (L 1).isLt; omega⟩

abbrev iPts (q : PosShare TreeShare) : sProp 𝕄 := iLoc d ↦{q} ix d
abbrev tPts (q : PosShare TreeShare) : sProp 𝕄 := tLoc d ↦{q} tb d
abbrev oRowPts (w : Fin 32) (f : Buf (Elt F) (oLoc d)) : sProp 𝕄 := oLoc d ↦[oSet w]{fullShare} f
/-- What the call leaves in its result. -/
abbrev OUT : Buf (Elt F) (oLoc d) := outVal (α := F .f32) (ix d) (tb d)

abbrev irowK (L : grid0.Coords) : Rect S2048 := Rect.unit (s := S2048) (k0_off1 L) S64.size (k0_off1_inb L)
abbrev orowK (L : grid0.Coords) : Rect S16384 := Rect.unit (s := S16384) (k0_off3 L) S512.size (k0_off3_inb L)
abbrev iRowK (L : grid0.Coords) : Memref sig .scVector .hbm S64 .i32 := (iV).slice (irowK L) (fun _ => rfl)
abbrev oRowK (L : grid0.Coords) : Memref sig .scVector .hbm S512 .f32 := (oV).slice (orowK L) (fun _ => rfl)
abbrev tAllK : Memref sig .scVector .hbm S4096x128 .f32 :=
  (tV).slice (Rect.unit (s := S4096x128) ![0, 0] S4096x128.size inb_S4096x128_S4096x128_0_0) (fun _ => rfl)

omit [FloatOps F] in
theorem orowK_eq : orowK L = orow (wid L) := by
  unfold orowK orow Rect.part Rect.block
  congr 1 <;> funext a
  · rw [k0_off3_eq]
    match a with
    | 0 => simp [Shape.partIx, Shape.partSize]; omega
  · match a with
    | 0 => simp [Shape.partSize]

omit [FloatOps F] in
theorem pts_oRowK (f : Buf (Elt F) (oLoc d)) :
    ((oRowK L).view.loc (V d (cV L) (jV L)) ↦[(oRowK L).view.set]{fullShare} f : sProp 𝕄) = oLoc d ↦[oSet (wid L)]{fullShare} f := by
  have e : (oRowK L).view.set = oSet (wid L) := by
    show ((oV).view.slice (orowK L)).set = ((oV).view.slice (orow (wid L))).set
    exact orowK_eq L ▸ rfl
  rw [e]
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_aV (f : Buf (Elt F) ((V d (cV L) (jV L)).loc cc0_scratch0)) :
    ((aV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl
omit [FloatOps F] in
theorem pts_gV (f : Buf (Elt F) ((V d (cV L) (jV L)).loc cc0_scratch2)) :
    ((gV).view.loc (V d (cV L) (jV L)) ↦{fullShare} f : sProp 𝕄) = (V d (cV L) (jV L)).loc cc0_scratch2 ↦{fullShare} f := rfl
omit [FloatOps F] in
theorem pts_uV (f : Buf (Elt F) ((V d (cV L) (jV L)).loc cc0_scratch3)) :
    ((uV).view.loc (V d (cV L) (jV L)) ↦{fullShare} f : sProp 𝕄) = (V d (cV L) (jV L)).loc cc0_scratch3 ↦{fullShare} f := rfl

abbrev gCell (d : Dev nD) (c : Fin τ.nSC) (i : Fin τ.nSub) : GSem nD τ sig := (V d c i, .dma cc0_scratch4.sem)
abbrev aCell (d : Dev nD) (c : Fin τ.nSC) (i : Fin τ.nSub) : GSem nD τ sig := (V d c i, .dma cc0_scoped0.sem)
abbrev oCell (d : Dev nD) (c : Fin τ.nSC) (i : Fin τ.nSub) : GSem nD τ sig := (V d c i, .dma cc0_scoped1.sem)

omit [FloatOps F] in
/-- The body's three semaphore cells are among the subcore's own. -/
theorem ownSems0_V :
    (ownSems0 (V d (cV L) (jV L)) : sProp 𝕄)
      = iprop(semVal (gCell d (cV L) (jV L)) 0 ∗ semVal (aCell d (cV L) (jV L)) 0 ∗ semVal (oCell d (cV L) (jV L)) 0
          ∗ bigSep ((((ownCells (V d (cV L) (jV L))).erase (gCell d (cV L) (jV L))).erase (aCell d (cV L) (jV L))).erase (oCell d (cV L) (jV L))) fun g => semVal g 0) := by
  unfold SparseCore.Cfg.ownSems0
  rw [SparseCore.bigSep_erase' ((mem_ownCells (g := gCell d (cV L) (jV L))).mpr ⟨rfl, by
      show (SemLoc.dma cc0_scratch4.sem : SemLoc sig).isScoped .scVector = true; decide⟩),
    SparseCore.bigSep_erase' (Finset.mem_erase.mpr ⟨by simp [gCell, aCell]; decide, (mem_ownCells (g := aCell d (cV L) (jV L))).mpr ⟨rfl, by
      show (SemLoc.dma cc0_scoped0.sem : SemLoc sig).isScoped .scVector = true; decide⟩⟩),
    SparseCore.bigSep_erase' (Finset.mem_erase.mpr ⟨by simp [aCell, oCell]; decide, Finset.mem_erase.mpr ⟨by simp [gCell, oCell]; decide,
      (mem_ownCells (g := oCell d (cV L) (jV L))).mpr ⟨rfl, by show (SemLoc.dma cc0_scoped1.sem : SemLoc sig).isScoped .scVector = true; decide⟩⟩⟩)]

omit [FloatOps F] in
/-- The four scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have own (r : Ref sig .scVector) (h : _) :
      (Proc.scVector (cV L) (jV L)).devRef r ∈ ownRefs (τ := τ) (.scVector (cV L) (jV L)) :=
    SparseCore.Cfg.mem_ownRefs_of_owner (p := Proc.scVector (cV L) (jV L)) (b := (Proc.scVector (cV L) (jV L)).devRef r) h
  have ne {r r' : Ref sig .scVector} (h : r ≠ r') : (Proc.scVector (cV L) (jV L)).devRef r ≠ (Proc.scVector (cV L) (jV L)).devRef r' :=
    fun e => h (Proc.devRef_injective _ e)
  unfold SparseCore.Cfg.ownBufs
  refine (SparseCore.bigSep_erase' (own cc0_scratch0 rfl)).trans ?_
  rw [SparseCore.bigSep_erase' (Finset.mem_erase.mpr ⟨ne (show cc0_scratch1 ≠ cc0_scratch0 by decide), own cc0_scratch1 rfl⟩),
    SparseCore.bigSep_erase' (Finset.mem_erase.mpr ⟨ne (show cc0_scratch2 ≠ cc0_scratch1 by decide),
      Finset.mem_erase.mpr ⟨ne (show cc0_scratch2 ≠ cc0_scratch0 by decide), own cc0_scratch2 rfl⟩⟩),
    SparseCore.bigSep_erase' (Finset.mem_erase.mpr ⟨ne (show cc0_scratch3 ≠ cc0_scratch2 by decide),
      Finset.mem_erase.mpr ⟨ne (show cc0_scratch3 ≠ cc0_scratch1 by decide),
      Finset.mem_erase.mpr ⟨ne (show cc0_scratch3 ≠ cc0_scratch0 by decide), own cc0_scratch3 rfl⟩⟩⟩)]

/-! ### What the scratch buffers hold -/

abbrev a1 (n : ℕ) (h : n < 64) : S64.Idx := fun | 0 => ⟨n, h⟩

/-- The task's 64 entries of the index list. -/
def aC : S64.Idx → BitVec 32 := fun x =>
  ix d (i1 (64 * (wid L).val + (x 0).val) (by have h := (wid L).isLt; have h' : (x 0).val < 64 := (x 0).isLt; omega))
/-- The table rows they lie in. -/
def rC : S64.Idx → BitVec 32 := fun x => IntOp.shrsi .vector (aC ix d L x) 4#32
/-- Those rows of the table. -/
def gC : S64x128.Idx → F .f32 := fun y =>
  tb d (t2 ((aC ix d L (a1 (y 0).val (y 0).isLt)).toNat / 16 % 4096) (y 1).val (Nat.mod_lt _ (by decide)) (y 1).isLt)

omit [FloatOps F] in
theorem aC_lt (hpre : InRows ix) (x : S64.Idx) : (aC ix d L x).toNat < 65536 := hpre d _

/-- A signed shift right by four of a non-negative word divides it by sixteen. -/
theorem shr4_toNat (v : BitVec 32) (h : v.toNat < 65536) : (IntOp.shrsi .vector v 4#32).toNat = v.toNat / 16 := by
  have hm : v.msb = false := by rw [BitVec.msb_eq_decide]; simp; omega
  simp [IntOp.shrsi, BitVec.sshiftRight_eq_of_msb_false hm, Nat.shiftRight_eq_div_pow]

omit [FloatOps F] in
theorem rC_toNat (hpre : InRows ix) (x : S64.Idx) : (rC ix d L x).toNat = (aC ix d L x).toNat / 16 :=
  shr4_toNat _ (aC_lt ix d L hpre x)

omit [FloatOps F] in
theorem fetched : (ReadAs.same.apply (View.read (Elt F) (iRowK L).view (ix d)) : S64.Idx → Elt F .i32) = aC ix d L := by
  funext x
  show (iRowK L).view.read (Elt F) (ix d) x = _
  rw [View.read_apply, cast_eq]
  refine congrArg (ix d) (funext fun a => ?_)
  match a with
  | 0 =>
    apply Fin.ext
    show (k0_off1 L) 0 + 1 * (x 0).val = 64 * (2 * (L 1).val + (L 0).val) + (x 0).val
    rw [k0_off1_eq]; simp; omega

omit [FloatOps F] in
theorem gathered (hpre : InRows ix) (hn) (hin) :
    SparseCore.gatherPayload (F := F) (e := .f32) gathers_S4096x128_S64x128 (tAllK.view.read (Elt F) (tb d))
      (SparseCore.rows (F := F) (rC ix d L) hn hin) = gC ix tb d L := by
  funext y
  show tAllK.view.read (Elt F) (tb d) _ = _
  rw [View.read_apply, cast_eq]
  refine congrArg (tb d) (funext fun a => ?_)
  match a with
  | 0 =>
    apply Fin.ext
    show 0 + 1 * (rC ix d L (S64.rowMajor.symm (Fin.cast hn.symm (y 0)))).toNat = (aC ix d L (a1 (y 0).val (y 0).isLt)).toNat / 16 % 4096
    rw [Nat.zero_add, Nat.one_mul, rC_toNat ix d L hpre]
    have e : S64.rowMajor.symm (Fin.cast hn.symm (y 0)) = a1 (y 0).val (y 0).isLt :=
      (Equiv.symm_apply_eq _).mpr (Fin.ext (Shape.rowMajor_val_one (d := ![64]) (a1 (y 0).val (y 0).isLt)).symm)
    have h := aC_lt ix d L hpre (a1 (y 0).val (y 0).isLt)
    rw [Nat.mod_eq_of_lt (by omega)]
    exact congrArg (fun z => (aC ix d L z).toNat / 16) e
  | 1 => exact Fin.ext (show 0 + 1 * (y 1).val = (y 1).val by omega)

/-! ### One trip of the loop: sixteen elements picked -/

theorem trips_eq : k0_t1_loop.trips = 32 := by decide
theorem pay5_toNat : ∀ (k : Fin k0_t1_loop.trips) (x : S16.Idx), (k0_pay5 k x).toNat = 16 * k.val + (x 0).val := by decide +kernel
theorem pay6_toNat : ∀ (k : Fin k0_t1_loop.trips) (x : S16.Idx), (k0_pay6 k x).toNat = (16 * k.val + (x 0).val) / 8 := by decide +kernel

theorem pay7_toNat (k : Fin k0_t1_loop.trips) (v : S16.Idx → BitVec 32) (x : S16.Idx) :
    (k0_pay7 (F := F) k v x).toNat = (v x).toNat % 16 * 8 + (16 * k.val + (x 0).val) % 8 := by
  show (IntOp.addi (IntOp.shli .vector (v x &&& 15#32) 3#32) (k0_pay5 k x &&& 7#32)).toNat = _
  have e1 : (v x &&& 15#32).toNat = (v x).toNat % 16 := by
    rw [BitVec.toNat_and]; exact Nat.and_two_pow_sub_one_eq_mod _ 4
  have e2 : (k0_pay5 k x &&& 7#32).toNat = (16 * k.val + (x 0).val) % 8 := by
    rw [BitVec.toNat_and, pay5_toNat]; exact Nat.and_two_pow_sub_one_eq_mod _ 3
  have e3 : (IntOp.shli .vector (v x &&& 15#32) 3#32).toNat = (v x).toNat % 16 * 8 := by
    simp only [IntOp.shli]
    rw [if_pos (by decide)]
    simp only [BitVec.shiftLeft_eq', BitVec.toNat_shiftLeft, e1, BitVec.toNat_ofNat, Nat.shiftLeft_eq]
    rw [show 2 ^ (3 % 2 ^ 32) = 8 by decide]
    omega
  simp only [IntOp.addi, BitVec.toNat_add, e3, e2]
  omega

theorem lt512 (x : S512.Idx) : (x 0).val < 512 := (x 0).isLt

/-- The element the task writes at place `n` of its block. -/
abbrev uG (n : ℕ) (h : n < 512) : F .f32 :=
  pick (α := F .f32) (ix d) (tb d) (512 * (wid L).val + n) (by have := (wid L).isLt; omega)

/-- The index list's entries and the rows stay; the out scratch is right up to the trip. -/
def inv (k : ℕ) (_ : PUnit) : sProp 𝕄 :=
  iprop(((aV).view.loc (V d (cV L) (jV L)) ↦{fullShare} aC ix d L)
    ∗ ((gV).view.loc (V d (cV L) (jV L)) ↦{fullShare} gC ix tb d L)
    ∗ ∃ f : S512.Idx → F .f32, ⌜∀ x : S512.Idx, (x 0).val < 16 * k → f x = uG ix tb d L (x 0).val (lt512 x)⌝
        ∗ (uV).view.loc (V d (cV L) (jV L)) ↦{fullShare} f)

/-- The lane picked at trip `k`. -/
theorem lane (k : Fin k0_t1_loop.trips) (h1) (h2) (x : S16.Idx) (hx : 16 * k.val + (x 0).val < 512) :
    loadIdx (F := F) (e := .f32) (gC ix tb d L) ![k0_pay6 k, k0_pay7 (F := F) k (loadIdx (F := F) (e := .i32) (aC ix d L) ![k0_pay6 k] h1)] h2 x
      = uG ix tb d L (16 * k.val + (x 0).val) hx := by
  have e6 := pay6_toNat k x
  have e7 := pay7_toNat (F := F) k (loadIdx (F := F) (e := .i32) (aC ix d L) ![k0_pay6 k] h1) x
  have hw := (wid L).isLt
  have hi (n n' : ℕ) (h : n < 2048) (h' : n' < 2048) (e : n = n') : ix d (i1 n h) = ix d (i1 n' h') := by subst e; rfl
  have e : ix d (i1 (64 * (wid L).val + (k0_pay6 k x).toNat) (by omega))
      = ix d (i1 ((512 * (wid L).val + (16 * k.val + (x 0).val)) / 8) (by omega)) := hi _ _ _ _ (by omega)
  refine congrArg (tb d) (funext fun a => ?_)
  match a with
  | 0 => exact Fin.ext (congrArg (fun z : BitVec 32 => z.toNat / 16 % 4096) e)
  | 1 =>
    apply Fin.ext
    show (k0_pay7 (F := F) k (loadIdx (F := F) (e := .i32) (aC ix d L) ![k0_pay6 k] h1) x).toNat = _
    rw [e7]
    show (ix d (i1 (64 * (wid L).val + (k0_pay6 k x).toNat) (by omega))).toNat % 16 * 8 + _ = _
    rw [e]
    show _ = _ + (512 * (wid L).val + (16 * k.val + (x 0).val)) % 8
    omega

theorem lane' (k : Fin k0_t1_loop.trips) (A : S64.Idx → BitVec 32) (G : S64x128.Idx → F .f32) (hA : A = aC ix d L) (hG : G = gC ix tb d L)
    (h1) (h2) (x : S16.Idx) (hx : 16 * k.val + (x 0).val < 512) :
    loadIdx (F := F) (e := .f32) G ![k0_pay6 k, k0_pay7 (F := F) k (loadIdx (F := F) (e := .i32) A ![k0_pay6 k] h1)] h2 x
      = uG ix tb d L (16 * k.val + (x 0).val) hx := by
  subst hA; subst hG; exact lane ix tb d L k h1 h2 x hx

set_option maxHeartbeats 4000000 in
theorem trip (k : Fin k0_t1_loop.trips) :
    inv ix tb d L k.val ⟨⟩ ⊢ wp frame (wpE (defs₀ (F := F)) 𝒱₀ (V d (cV L) (jV L)) none) Set.univ
      (k0_t1_body L tV (Memref.isWhole_whole _) iV (Memref.isWhole_whole _) oV (Memref.isWhole_whole _)
            aV (Memref.isWhole_whole _) rV (Memref.isWhole_whole _) gV (Memref.isWhole_whole _) uV (Memref.isWhole_whole _)
            cc0_scratch4 cc0_scoped0 cc0_scoped1 k ⟨⟩) fun x => inv ix tb d L (k.val + 1) x := by
  unfold k0_t1_body
  simp only [Prog.lift, Prog.bind_op, Prog.bind_ret, Prog.pure_eq_ret]
  have hk : k.val < 32 := lt_of_lt_of_eq k.isLt trips_eq
  have hc1 : k0_chk1 (k0_pay6 k) := by
    intro a x
    match a with
    | 0 =>
      show (k0_pay6 k x).toNat < 64
      rw [pay6_toNat]; have h : (x 0).val < 16 := (x 0).isLt; omega
  unfold inv
  iintro ⟨Ha, Hg, ⟨%f, %hf, Hu⟩⟩
  rw [wp_assume_of _ _ _ _ hc1]
  iapply (SparseCore.wp_vectorLoadIdx 𝒱₀ (V d (cV L) (jV L)) none Set.univ (base := aV) (S := Finset.univ) (q := fullShare) (Finset.subset_univ _)) $$ Ha; iintro Ha
  have hc2 (v : Vec F S16 .i32) : k0_chk2 (k0_pay6 k) (k0_pay7 (F := F) k v) := by
    intro a x
    match a with
    | 0 => exact hc1 0 x
    | 1 =>
      show (k0_pay7 (F := F) k _ x).toNat < 128
      rw [pay7_toNat]; omega
  rw [wp_assume_of _ _ _ _ (hc2 _)]
  iapply (SparseCore.wp_vectorLoadIdx 𝒱₀ (V d (cV L) (jV L)) none Set.univ (base := gV) (S := Finset.univ) (q := fullShare) (Finset.subset_univ _)) $$ Hg; iintro Hg
  sl_exec
  sl_step
  isplitl [Ha]; · iexact Ha
  isplitl [Hg]; · iexact Hg
  iexists _
  isplitr [Hu]; swap; · iexact Hu
  ipureintro
  intro x hx
  rw [← View.read_whole (Val := Elt F) (b := cc0_scratch3) ((uV).view.writes (Elt F) f _)]
  by_cases hlo : (x 0).val < 16 * k.val
  · refine (View.read_writes_cons_miss_of_axis (Val := Elt F) (uV).view f ⟨Rect.unit (s := S512) (k0_off2 k) S16.size (k0_off2_inb k), _⟩ [] x 0 (16 * k.val) 16 ?_ rfl rfl
      (.inl hlo)).trans ?_
    · exact congrFun (k0_off2_eq k) 0
    · exact hf x hlo
  · have hx' : (x 0).val = 16 * k.val + ((x 0).val - 16 * k.val) := by omega
    refine (View.read_writes_cons_hit_of_coords (Val := Elt F) (uV).view f (Rect.unit (s := S512) (k0_off2 k) S16.size (k0_off2_inb k)) _ [] (fun | 0 => ⟨(x 0).val - 16 * k.val, by show _ < 16; omega⟩ : S16.Idx) x ?_).trans ?_
    · intro a
      match a with
      | 0 =>
        show (x 0).val = k0_off2 k 0 + 1 * ((x 0).val - 16 * k.val)
        rw [congrFun (k0_off2_eq k) 0]; show (x 0).val = 16 * k.val + _; omega
    · refine (lane' ix tb d L k _ _ (Memref.read_access_whole (Elt F) _ _) (Memref.read_access_whole (Elt F) _ _) _ _ _
        (by show 16 * k.val + ((x 0).val - 16 * k.val) < 512; have := lt512 x; omega)).trans ?_
      have hn (n n' : ℕ) (h : n < 512) (h' : n' < 512) (e : n = n') : uG ix tb d L n h = uG ix tb d L n' h' := by subst e; rfl
      exact hn _ _ _ _ hx'.symm

end Tile

end Cert.Proof.Gather

end
-- ==== Proof.GatherBody.lean ====
/-
  The whole of one SparseCore task: what it holds at the start, and the same with its block of the result written.
-/
module

public import proofs.«01_k».proof.Proof.GatherTile

@[expose] public section

noncomputable section

namespace Cert.Proof.Gather

open Cert.Gather Cert.Gather.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.Gather.main_arg1_scv : Memref Cert.Gather.sig Kind.scVector Space.hbm Cert.Gather.S2048 EltTy.i32)
local notation "tV" => (Memref.whole Cert.Gather.main_v0_scv : Memref Cert.Gather.sig Kind.scVector Space.hbm Cert.Gather.S4096x128 EltTy.f32)
local notation "oV" => (Memref.whole Cert.Gather.main_v1_scv : Memref Cert.Gather.sig Kind.scVector Space.hbm Cert.Gather.S16384 EltTy.f32)
local notation "aV" => (Memref.whole Cert.Gather.cc0_scratch0 : Memref Cert.Gather.sig Kind.scVector Space.vmem Cert.Gather.S64 EltTy.i32)
local notation "rV" => (Memref.whole Cert.Gather.cc0_scratch1 : Memref Cert.Gather.sig Kind.scVector Space.vmem Cert.Gather.S64 EltTy.i32)
local notation "gV" => (Memref.whole Cert.Gather.cc0_scratch2 : Memref Cert.Gather.sig Kind.scVector Space.vmem Cert.Gather.S64x128 EltTy.f32)
local notation "uV" => (Memref.whole Cert.Gather.cc0_scratch3 : Memref Cert.Gather.sig Kind.scVector Space.vmem Cert.Gather.S512 EltTy.f32)

section Tile

variable (ix : (d : Dev nD) → Buf (Elt F) (iLoc d)) (tb : (d : Dev nD) → Buf (Elt F) (tLoc d))
variable (d : Dev nD) (L : grid0.Coords)

set_option maxHeartbeats 4000000 in
theorem tile_body (hF : (K (F := F)).Facts) (hpre : InRows ix) (O : CellTallies nD τ sig (HIx 1)) (W : Waits sig (HIx 1)) (hO : ∀ g, O g none = 0) :
    iprop(levAts (K (F := F)).L (K (F := F)).lev ∗ emp
        ∗ (iPts ix d (shq (wid L)) ∗ tPts tb d (shq (wid L)) ∗ ∃ f, oRowPts d (wid L) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather L tV (Memref.isWhole_whole _) iV (Memref.isWhole_whole _) oV (Memref.isWhole_whole _)
            aV (Memref.isWhole_whole _) rV (Memref.isWhole_whole _) gV (Memref.isWhole_whole _) uV (Memref.isWhole_whole _)
            cc0_scratch4 cc0_scoped0 cc0_scoped1)
          fun _ => iprop((iPts ix d (shq (wid L)) ∗ tPts tb d (shq (wid L)) ∗ oRowPts d (wid L) (OUT ix tb d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_eq_skeleton]; unfold cc0_gather_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hi, Ht, ⟨%fo, Ho⟩⟩, ⟨⟨%fa, Ha⟩, ⟨%fr, Hr⟩, ⟨%fg, Hg⟩, ⟨%fu, Hu⟩, Hbufs⟩, ⟨HsemG, HsemA, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ho' := (Entails.of_eq (pts_oRowK (F := F) d L _).symm) $$ Ho
  ihave Ht' := (Entails.of_eq (pts_tV (F := F) d L _ _).symm) $$ Ht
  ihave Ha' := (Entails.of_eq (pts_aV (F := F) d L _).symm) $$ Ha
  ihave Hr' := (Entails.of_eq (pts_rV (F := F) d L _).symm) $$ Hr
  ihave Hg' := (Entails.of_eq (pts_gV (F := F) d L _).symm) $$ Hg
  ihave Hu' := (Entails.of_eq (pts_uV (F := F) d L _).symm) $$ Hu
  sl_exec
  have ha : View.write (Elt F) (aV).view fa (tile_body.sl.dma0 ix d L) Finset.univ = aC ix d L := by
    rw [View.write_whole_univ]; exact fetched ix d L
  have hr : (rV).view.writes (Elt F) (rV).view.junk (tile_body.sl.Hr'_4 ix d L fa) = rC ix d L := by
    funext y
    refine (congrFun (View.read_whole _ _) y).symm.trans (View.read_writes_apply_of_pieces (Val := Elt F) (rV).view _ (rC ix d L) _ ?_ y ?_)
    · delta tile_body.sl.Hr'_4
      rw [ha]
      simp only [List.forall_mem_cons, List.not_mem_nil, false_imp_iff, implies_true, _root_.and_true]
      refine ⟨fun x => ?_, fun x => ?_, fun x => ?_, fun x => ?_⟩ <;> rfl
    · revert y; exact View.cover_of_tiled _ ![16] (by sl_kernel_rfl)
  rw [ha, hr]
  ihave Hts := (pointsTo_split_subset (q := shq (wid L)) (f := tb d) (S := Finset.univ) (Finset.subset_univ (tAllK).view.set)).1 $$ Ht'
  icases Hts with ⟨Hts, Htr⟩
  have hgs : (gV).view.set = Finset.univ := View.set_whole _
  have hrs : (rV).view.set = Finset.univ := View.set_whole _
  ihave Hg2 := (Entails.of_eq (show ((gV).view.loc (V d (cV L) (jV L)) ↦{fullShare} fg : sProp 𝕄)
      = (gV).view.loc (V d (cV L) (jV L)) ↦[(gV).view.set]{fullShare} fg by rw [hgs])) $$ Hg'
  ihave Hr2 := (Entails.of_eq (show ((rV).view.loc (V d (cV L) (jV L)) ↦{fullShare} rC ix d L : sProp 𝕄)
      = (rV).view.loc (V d (cV L) (jV L)) ↦[(rV).view.set]{fullShare} rC ix d L by rw [hrs])) $$ Hr'
  have hN : ∀ h : S4096x128.Gathers 0 S64x128, ∑ j, ((gV).slice (S64x128.rowRect h.axis' j) (S64x128.stride_rowRect h.axis' j)).view.dmaCredit
      = (gV).view.dmaCredit := by decide
  have hin : ∀ x, ((rV).view.read (Elt F) (rC ix d L) x).toNat < S4096x128.size gathers_S4096x128_S64x128.axis := by
    intro x
    show (rC ix d L x).toNat < 4096
    rw [rC_toNat ix d L hpre]
    have := aC_lt ix d L hpre x
    omega
  iapply (SparseCore.wp_indirectGatherLocal countersEmb 𝒱₀ (V d (cV L) (jV L)) none (hg := gathers_S4096x128_S64x128) (default : HIx 1)
      (gV).view.dmaCredit (hN _) (by decide) hin) $$ [Hts Hg2 Hr2 HsemG]
  · isplitl [Hts]; · iexact Hts
    isplitl [Hg2]; · iexact Hg2
    isplitl [Hr2]; · iexact Hr2
    iexact HsemG
  iintro Hfl
  sl_exec
  iapply (Transfers.wp_waitLocalO countersEmb 𝒱₀ (V d (cV L) (jV L)) none (default : HIx 1) (rfl : (gV).view.dmaCredit = _)) $$ [Hfl HO]
  · isplitl [Hfl]; · iexact Hfl
    isplitl [HO]; · iexact HO
    iapply (Transfers.MayWaits.elim (SemLoc.dma cc0_scratch4.sem)) $$ Hmw
  iintro ⟨⟨Hg', Hts, Hr'⟩, HsemG, HO⟩
  ihave Ht' := (pointsTo_split_subset (q := shq (wid L)) (f := tb d) (S := Finset.univ) (Finset.subset_univ (tAllK).view.set)).2 $$ [Hts Htr]; · isplitl [Hts] <;> iassumption
  rw [hgs, hrs, View.write_whole_univ]
  have hgat := gathered ix tb d L hpre k0_part1_skel._proof_19 hin
  rw [show SparseCore.gatherPayload gathers_S4096x128_S64x128 (View.read (Elt F) tAllK.view (tb d))
      (SparseCore.rows (View.read (Elt F) (rV).view (rC ix d L)) k0_part1_skel._proof_19 hin) = gC ix tb d L from hgat]
  sl_exec
  rw [Prog.bind_assoc]
  sl_for (inv ix tb d L) $$ [Ha' Hg' Hu']
  case region => intro k _; exact trip ix tb d L k
  · unfold inv
    isplitl [Ha']; · iexact Ha'
    isplitl [Hg']; · iexact Hg'
    iexists fu
    isplitr [Hu']; swap; · iexact Hu'
    ipureintro
    intro x hx; omega
  iintro %_ HI
  unfold inv
  icases HI with ⟨Ha', Hg', ⟨%f, %hf, Hu'⟩⟩
  sl_exec
  sl_step
  have hout : ∀ j ∈ (oRowK L).view.set, (oRowK L).view.writes (Elt F) fo [⟨Rect.whole S512, tile_body.sl.dma0_1 f⟩] j = OUT ix tb d j := by
    intro j hj
    obtain ⟨x, -, rfl⟩ := Finset.mem_map.mp hj
    have hx : (x 0).val < 512 := (x 0).isLt
    have h1 : (oRowK L).view.read (Elt F) ((oRowK L).view.writes (Elt F) fo [⟨Rect.whole S512, tile_body.sl.dma0_1 f⟩]) x = f x :=
      View.read_writes_cons_hit_of_coords (Val := Elt F) (oRowK L).view fo (Rect.whole S512) (tile_body.sl.dma0_1 f) [] x x
        (fun a => by show (x a).val = 0 + 1 * (x a).val; omega)
    rw [View.read_apply, cast_eq] at h1
    refine h1.trans ((hf x hx).trans ?_)
    have hn (n n' : ℕ) (h : n < 16384) (h' : n' < 16384) (e : n = n') : pick (α := F .f32) (ix d) (tb d) n h = pick (ix d) (tb d) n' h' := by subst e; rfl
    refine hn _ _ _ _ ?_
    show 512 * (2 * (L 1).val + (L 0).val) + (x 0).val = k0_off3 L 0 + 1 * (x 0).val
    rw [congrFun (k0_off3_eq L) 0]
    show _ = 1024 * (L 1).val + 512 * (L 0).val + 1 * (x 0).val
    omega
  ihave Ho2 := (Entails.of_eq (pointsTo_congr hout)) $$ Ho'
  isplitl [Hi' Ht' Ho2]
  · isplitl [Hi']; · iapply (Entails.of_eq (pts_iV (F := F) d L _ _)); iexact Hi'
    isplitl [Ht']; · iexact Ht'
    iapply (Entails.of_eq (pts_oRowK (F := F) d L _)); iexact Ho2
  isplitl [Ha' Hr' Hg' Hu' Hbufs]
  · isplitl [Ha']; · iexists _; iexact Ha'
    isplitl [Hr']; · iexists _; iexact Hr'
    isplitl [Hg']; · iexists _; iexact Hg'
    isplitl [Hu']; · iexists _; iexact Hu'
    iexact Hbufs
  isplitl [HsemG HsemA HsemO Hsems]
  · isplitl [HsemG]; · iexact HsemG
    isplitl [HsemA]; · iexact HsemA
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Gather

end
-- ==== Proof.GatherSplit.lean ====
/-
  How the SparseCore call's work is dealt: the index list and the table go to the 32 tasks as read shares, the result in
  32 blocks of 512, and all of it comes back with the result written.
-/
module

public import proofs.«01_k».proof.Proof.GatherBody

@[expose] public section

noncomputable section

namespace Cert.Proof.Gather

open Cert.Gather Cert.Gather.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.Gather.main_arg1_scv : Memref Cert.Gather.sig Kind.scVector Space.hbm Cert.Gather.S2048 EltTy.i32)
local notation "tV" => (Memref.whole Cert.Gather.main_v0_scv : Memref Cert.Gather.sig Kind.scVector Space.hbm Cert.Gather.S4096x128 EltTy.f32)
local notation "oV" => (Memref.whole Cert.Gather.main_v1_scv : Memref Cert.Gather.sig Kind.scVector Space.hbm Cert.Gather.S16384 EltTy.f32)
local notation "aV" => (Memref.whole Cert.Gather.cc0_scratch0 : Memref Cert.Gather.sig Kind.scVector Space.vmem Cert.Gather.S64 EltTy.i32)
local notation "rV" => (Memref.whole Cert.Gather.cc0_scratch1 : Memref Cert.Gather.sig Kind.scVector Space.vmem Cert.Gather.S64 EltTy.i32)
local notation "gV" => (Memref.whole Cert.Gather.cc0_scratch2 : Memref Cert.Gather.sig Kind.scVector Space.vmem Cert.Gather.S64x128 EltTy.f32)
local notation "uV" => (Memref.whole Cert.Gather.cc0_scratch3 : Memref Cert.Gather.sig Kind.scVector Space.vmem Cert.Gather.S512 EltTy.f32)

section Split

variable (ix : (d : Dev nD) → Buf (Elt F) (iLoc d)) (tb : (d : Dev nD) → Buf (Elt F) (tLoc d))

/-- Task number of subcore `i` of SparseCore `c`. -/
abbrev wOf (c : Fin 2) (i : Fin 16) : Fin 32 := ⟨2 * i.val + c.val, by have := c.isLt; have := i.isLt; omega⟩

/-- What task `w` takes, and what it brings back. -/
abbrev takes (d : Dev nD) (w : Fin 32) : sProp 𝕄 := iprop(iPts ix d (shq w) ∗ tPts tb d (shq w) ∗ ∃ f, oRowPts d w f)
abbrev brings (d : Dev nD) (w : Fin 32) : sProp 𝕄 := iprop(iPts ix d (shq w) ∗ tPts tb d (shq w) ∗ oRowPts d w (OUT ix tb d))

/-- Each SparseCore takes what its sixteen tasks take, and brings back what they bring. -/
def P : (K (F := F)).Pay (nD := nD) (Val := Elt F) (Name := ℕ) (U := UU) where
  st := fun q d c => match q with | 0 => bigSep Finset.univ fun i : Fin 16 => takes ix tb d (wOf (Fin.cast nCore_zero c) i)
  dn := fun q d c => match q with | 0 => bigSep Finset.univ fun i : Fin 16 => brings ix tb d (wOf (Fin.cast nCore_zero c) i)
  go := fun q d c i => match q with | 0 => takes ix tb d (wOf (Fin.cast nCore_zero c) (Fin.cast nSub_zero i))
  td := fun q d c i => match q with | 0 => brings ix tb d (wOf (Fin.cast nCore_zero c) (Fin.cast nSub_zero i))
  x := fun _ _ => iprop(emp)

instance P_storable : (P (F := F) ix tb).IsStorable where
  st q d c := match q with
    | 0 => (inferInstance : BI.Storable (upEmb : UEmb _ 𝕄) (bigSep Finset.univ fun i : Fin 16 => takes ix tb d (wOf (Fin.cast nCore_zero c) i)))
  dn q d c := match q with
    | 0 => (inferInstance : BI.Storable (upEmb : UEmb _ 𝕄) (bigSep Finset.univ fun i : Fin 16 => brings ix tb d (wOf (Fin.cast nCore_zero c) i)))
  go q d c i := match q with
    | 0 => (inferInstance : BI.Storable (upEmb : UEmb _ 𝕄) (takes ix tb d (wOf (Fin.cast nCore_zero c) (Fin.cast nSub_zero i))))
  td q d c i := match q with
    | 0 => (inferInstance : BI.Storable (upEmb : UEmb _ 𝕄) (brings ix tb d (wOf (Fin.cast nCore_zero c) (Fin.cast nSub_zero i))))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather (coordsV c s)
          tV (Memref.isWhole_whole _) iV (Memref.isWhole_whole _) oV (Memref.isWhole_whole _)
          aV (Memref.isWhole_whole _) rV (Memref.isWhole_whole _) gV (Memref.isWhole_whole _) uV (Memref.isWhole_whole _)
          cc0_scratch4 cc0_scoped0 cc0_scoped1) ⟨⟩ c s := rfl

omit [FloatOps F] in
/-- A task that has recorded waits at the base index only has recorded none it may not. -/
theorem recorded_ok {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr; swap; · iexact HO
  ipureintro
  intro p hp
  rcases hW' p hp with h | h
  · exact .inl h
  · exact .inr (.inl h)

set_option maxRecDepth 16384 in
theorem tileObl (hF : (K (F := F)).Facts) (hpre : InRows ix) : (K (F := F)).TileObl (D (F := F)) 𝒱 (P ix tb) v₀ 0 := by
  intro d c i O W hO _ _
  simp only [show (P ix tb).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ix tb d (coordsV ⟨_, hci.1⟩ ⟨_, hci.2⟩) hF hpre O W hO).trans (wp_mono frame _ _ fun _ => recorded_ok)

theorem vecSplit : (K (F := F)).VecSplit' (P ix tb) 0 := by
  intro d c
  show (bigSep Finset.univ fun i : Fin 16 => takes ix tb d (wOf (Fin.cast nCore_zero c) i)) ⊢ |={Set.univ}=> iprop(
      (bigSep Finset.univ fun i : Fin 16 => takes ix tb d (wOf (Fin.cast nCore_zero c) i))
      ∗ ((bigSep Finset.univ fun i : Fin 16 => brings ix tb d (wOf (Fin.cast nCore_zero c) i))
          -∗ (bigSep Finset.univ fun i : Fin 16 => brings ix tb d (wOf (Fin.cast nCore_zero c) i))))
  iintro H; imodintro
  isplitl [H]; · iexact H
  iintro H; iexact H

/-! ### The whole arrays and the 32 tasks' parts -/

omit [FloatOps F] in
theorem oSet_eq (w : Fin 32) : oSet w = (orow w).set := by
  show ((View.whole (main_v1_scv : Ref sig .scVector)).slice (orow w)).set = _
  rw [View.set_slice]; exact Finset.map_refl
omit [FloatOps F] in
theorem oPts_rows (d : Dev nD) (f : Buf (Elt F) (oLoc d)) :
    (oLoc d ↦{fullShare} f : sProp 𝕄) = bigSep Finset.univ fun w : Fin 32 => oLoc d ↦[oSet w]{fullShare} f := by
  have hd : ∀ i ∈ (Finset.univ : Finset (Fin 32)), ∀ j ∈ (Finset.univ : Finset (Fin 32)), i ≠ j → Disjoint (oSet i) (oSet j) :=
    fun i _ j _ h => by rw [oSet_eq, oSet_eq]; exact Rect.part_disjoint odiv h
  have hc : (Finset.univ : Finset (Fin 32)).biUnion oSet = Finset.univ :=
    (Finset.biUnion_congr rfl fun i _ => oSet_eq i).trans (Rect.biUnion_part odiv)
  rw [← pointsTo_biUnion Finset.univ (ℓ := oLoc d) oSet hd, hc]; try rfl

/-- Subcore and SparseCore numbers make the task's. -/
def wEquiv : Fin 2 × Fin 16 ≃ Fin 32 := (Equiv.prodComm _ _).trans finProdFinEquiv
omit [FloatOps F] in
theorem wEquiv_apply (c : Fin 2) (i : Fin 16) : wEquiv (c, i) = wOf c i := by
  apply Fin.ext; simp [wEquiv, finProdFinEquiv]; omega

omit [FloatOps F] in
theorem bigSep_wOf (Φ : Fin 32 → sProp 𝕄) :
    (bigSep Finset.univ fun c : Fin 2 => bigSep Finset.univ fun i : Fin 16 => Φ (wOf c i)) = bigSep Finset.univ Φ := by
  rw [bigSep_univ_equiv wEquiv Φ, bigSep_univ_prod]
  simp only [wEquiv_apply]

/-- What the call takes is the arrays whole, -/
theorem st_of_whole (d : Dev nD) :
    iprop(iPts ix d fullShare ∗ tPts tb d fullShare ∗ ∃ f, oLoc d ↦{fullShare} f)
      ⊢ (bigSep Finset.univ fun c : Fin ((K (F := F)).nCore 0) => (P ix tb).st 0 d c) := by
  show _ ⊢ (bigSep Finset.univ fun c : Fin 2 => bigSep Finset.univ fun i : Fin 16 => takes ix tb d (wOf c i))
  rw [bigSep_wOf (F := F) (fun w => takes ix tb d w), bigSep_sep', bigSep_sep']
  unfold iPts tPts
  rw [pointsTo_shr Finset.univ (ix d) 5 fullShare, pointsTo_shr Finset.univ (tb d) 5 fullShare]
  iintro ⟨Hi, Ht, ⟨%f, Ho⟩⟩
  isplitl [Hi]; · iexact Hi
  isplitl [Ht]; · iexact Ht
  iapply (show (oLoc d ↦{fullShare} f : sProp 𝕄) ⊢ bigSep Finset.univ fun w : Fin 32 => iprop(∃ f, oRowPts d w f) from by
    rw [oPts_rows]
    refine bigSep_mono fun w _ => ?_
    show (oLoc d ↦[oSet w]{fullShare} f : sProp 𝕄) ⊢ iprop(∃ f, oRowPts d w f)
    iintro H; iexists f; iexact H)
  iexact Ho

/-- and what it brings back the same with the result at `outVal`. -/
theorem whole_of_dn (d : Dev nD) :
    (bigSep Finset.univ fun c : Fin ((K (F := F)).nCore 0) => (P ix tb).dn 0 d c)
      ⊢ iprop(iPts ix d fullShare ∗ tPts tb d fullShare ∗ oLoc d ↦{fullShare} OUT ix tb d) := by
  show (bigSep Finset.univ fun c : Fin 2 => bigSep Finset.univ fun i : Fin 16 => brings ix tb d (wOf c i)) ⊢ _
  rw [bigSep_wOf (F := F) (fun w => brings ix tb d w), bigSep_sep', bigSep_sep']
  unfold iPts tPts
  rw [pointsTo_shr Finset.univ (ix d) 5 fullShare, pointsTo_shr Finset.univ (tb d) 5 fullShare, oPts_rows]
  exact BI.Entails.refl _

end Split

end Cert.Proof.Gather

end
-- ==== Proof.GatherRun.lean ====
/-
  The gather program's run: from a launch memory whose index list names rows of the table, it ends with the result at
  `outVal` of the list and the table, the arguments unchanged and every counter at zero.
-/
module

public import proofs.«01_k».proof.Proof.GatherSplit

@[expose] public section

noncomputable section

namespace Cert.Proof.Gather

open Cert.Gather Cert.Gather.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ
local notation "iV" => (Memref.whole Cert.Gather.main_arg1_scv : Memref Cert.Gather.sig Kind.scVector Space.hbm Cert.Gather.S2048 EltTy.i32)
local notation "tV" => (Memref.whole Cert.Gather.main_v0_scv : Memref Cert.Gather.sig Kind.scVector Space.hbm Cert.Gather.S4096x128 EltTy.f32)
local notation "oV" => (Memref.whole Cert.Gather.main_v1_scv : Memref Cert.Gather.sig Kind.scVector Space.hbm Cert.Gather.S16384 EltTy.f32)
local notation "aV" => (Memref.whole Cert.Gather.cc0_scratch0 : Memref Cert.Gather.sig Kind.scVector Space.vmem Cert.Gather.S64 EltTy.i32)
local notation "rV" => (Memref.whole Cert.Gather.cc0_scratch1 : Memref Cert.Gather.sig Kind.scVector Space.vmem Cert.Gather.S64 EltTy.i32)
local notation "gV" => (Memref.whole Cert.Gather.cc0_scratch2 : Memref Cert.Gather.sig Kind.scVector Space.vmem Cert.Gather.S64x128 EltTy.f32)
local notation "uV" => (Memref.whole Cert.Gather.cc0_scratch3 : Memref Cert.Gather.sig Kind.scVector Space.vmem Cert.Gather.S512 EltTy.f32)

abbrev EH : Emb UH 𝕄 := embL

variable (m : (ℓ : Loc nD τ sig) → Buf (Elt F) ℓ) (ρ : Dev nD → PrngReg)

/-! ## What the buffers hold along @main -/

abbrev r0 : DevRef τ sig := Proc.devRef .tc main_arg0
abbrev r1 : DevRef τ sig := Proc.devRef .tc main_arg1
abbrev rv0 : DevRef τ sig := Proc.devRef .tc main_v0
abbrev rv1 : DevRef τ sig := Proc.devRef .tc main_v1
abbrev rv2 : DevRef τ sig := Proc.devRef .tc main_v2
def S5 : Finset (DevRef τ sig) := {r0, r1, rv0, rv1, rv2}

abbrev op0 : HloOp τ sig (Elt F) := StableHlo.reshape main_arg0 main_v0 (rfl : (.f32 : EltTy) = .f32) shapeCasts_S65536x8_S4096x128
abbrev op2 : HloOp τ sig (Elt F) := StableHlo.reshape main_v1 main_v2 (rfl : (.f32 : EltTy) = .f32) shapeCasts_S16384_S2048x8

theorem op0_sub : (op0 (F := F)).bufs ⊆ S5 := show ({r0, rv0} : Finset (DevRef τ sig)) ⊆ S5 by decide
theorem op2_sub : (op2 (F := F)).bufs ⊆ S5 := show ({rv1, rv2} : Finset (DevRef τ sig)) ⊆ S5 by decide

def V0 (d : Dev nD) : Valuation τ sig (Elt F) := fun b => m (d, b)
def V1 (d : Dev nD) : Valuation τ sig (Elt F) := (op0 (F := F)).result (V0 m d)
/-- The call's two inputs. -/
abbrev ixOf (d : Dev nD) : Buf (Elt F) (iLoc d) := m (iLoc d)
abbrev tbOf (d : Dev nD) : Buf (Elt F) (tLoc d) := shapeCast S4096x128 (m ((SparseCore.T d).loc main_arg0) : S65536x8.Idx → F .f32) shapeCasts_S65536x8_S4096x128
def V2 (d : Dev nD) : Valuation τ sig (Elt F) := Function.update (V1 m d) rv1 (OUT (ixOf m) (tbOf m) d)
def V3 (d : Dev nD) : Valuation τ sig (Elt F) := (op2 (F := F)).result (V2 m d)
/-- The result. -/
abbrev resOf (d : Dev nD) : S2048x8.Idx → F .f32 := shapeCast S2048x8 (OUT (ixOf m) (tbOf m) d : S16384.Idx → F .f32) shapeCasts_S16384_S2048x8

theorem V1_i (d : Dev nD) : V1 m d r1 = ixOf m d := StableHlo.reshape_result_ne _ _ _ _ _ _ _ (by decide)
theorem V1_t (d : Dev nD) : V1 m d rv0 = tbOf m d := by unfold V1; rw [StableHlo.reshape_result]; rfl
theorem V3_r (d : Dev nD) : V3 m d rv2 = resOf m d := by
  unfold V3; rw [StableHlo.reshape_result]
  unfold V2; rw [Function.update_self]; rfl
theorem V3_0 (d : Dev nD) : V3 m d r0 = m ((SparseCore.T d).loc main_arg0) := by
  refine (StableHlo.reshape_result_ne _ _ _ _ _ _ _ (by decide)).trans ?_
  unfold V2; rw [Function.update_of_ne (show r0 ≠ rv1 by decide)]
  exact StableHlo.reshape_result_ne _ _ _ _ _ _ _ (by decide)
theorem V3_1 (d : Dev nD) : V3 m d r1 = m ((SparseCore.T d).loc main_arg1) := by
  refine (StableHlo.reshape_result_ne _ _ _ _ _ _ _ (by decide)).trans ?_
  unfold V2; rw [Function.update_of_ne (show r1 ≠ rv1 by decide)]
  exact V1_i m d

omit [FloatOps F] in
theorem held_S5 (d : Dev nD) (W : Valuation τ sig (Elt F)) :
    (held (T d) S5 W : sProp 𝕄) = iprop(((d, r0) ↦{fullShare} W r0) ∗ ((d, r1) ↦{fullShare} W r1) ∗ ((d, rv0) ↦{fullShare} W rv0)
      ∗ ((d, rv1) ↦{fullShare} W rv1) ∗ (d, rv2) ↦{fullShare} W rv2) := by
  unfold held S5
  rw [SparseCore.bigSep_insert' (by decide), SparseCore.bigSep_insert' (by decide), SparseCore.bigSep_insert' (by decide),
    SparseCore.bigSep_insert' (by decide), bigSep_singleton]
omit [FloatOps F] in
theorem unscoped_held (d : Dev nD) : (unscopedBufs d (fun b => m ((SparseCore.T d).loc b)) : sProp 𝕄) = held (T d) S5 (V0 m d) := by
  rw [held_S5]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

/-! ## The launch -/

def u₀ : UU := (initOf (K (F := F)).hsCells (K (F := F)).hsToks, 1)

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (ixOf m) (tbOf m)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (ixOf m) (tbOf m)).x q thr) = bigSep Finset.univ fun _ => iprop(emp) from
    bigSep_congr fun _ _ => bigSep_univ_of_subsingleton (0 : Fin 1), bigSep_none]
  iempintro

/-- What @main leaves: the arguments as they were, and the result. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ (SparseCore.T d).loc main_v2 ↦{fullShare} resOf m d)

theorem hmain (κ : GSem nD τ sig → ℕ) (d : Dev nD) :
    iprop((K (F := F)).ctx EH (P (ixOf m) (tbOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S5) op0_sub (V := V0 m d)) $$ [Hb Hheld]
  · isplitl [Hb]; · iexact Hb
    iexact Hheld
  iintro ⟨Hb, Hheld⟩
  rw [wp_ret, show (op0 (F := F)).result (V0 m d) = V1 m d from rfl]; imodintro
  ihave Hh := (Entails.of_eq (held_S5 (F := F) d (V1 m d))) $$ Hheld
  icases Hh with ⟨H0, H1, Ht, Ho, H2⟩
  iapply ((K (F := F)).wp_run (D (F := F)) 𝒱 (EH := EH) (P := P (ixOf m) (tbOf m)) κ d 0) $$ [Hst H1 Ht Ho Hb Hts H0 H2]
  isplitr; · iexact Hctx
  isplitl [Hst]; · iexact Hst
  isplitl [H1 Ht Ho]
  · iapply (st_of_whole (ixOf m) (tbOf m) d)
    rw [V1_i, V1_t]
    isplitl [H1]; · iexact H1
    isplitl [Ht]; · iexact Ht
    iexists _; iexact Ho
  iintro ⟨Hst, Hdn⟩
  ihave Hdn' := (whole_of_dn (ixOf m) (tbOf m) d) $$ Hdn
  icases Hdn' with ⟨H1, Ht, Ho⟩
  iapply (wp_hlo_within 𝒱 (SparseCore.T d) none Set.univ (op := op2) (S := S5) op2_sub (V := V2 m d)) $$ [Hb H0 H1 Ht Ho H2]
  · isplitl [Hb]; · iexact Hb
    rw [held_S5]
    unfold V2
    rw [Function.update_self, Function.update_of_ne (show r0 ≠ rv1 by decide), Function.update_of_ne (show r1 ≠ rv1 by decide),
      Function.update_of_ne (show rv0 ≠ rv1 by decide), Function.update_of_ne (show rv2 ≠ rv1 by decide), V1_i, V1_t]
    isplitl [H0]; · iexact H0
    isplitl [H1]; · iexact H1
    isplitl [Ht]; · iexact Ht
    isplitl [Ho]; · iexact Ho
    iexact H2
  iintro ⟨Hb, Hheld⟩
  rw [show (op2 (F := F)).result (V2 m d) = V3 m d from rfl]
  ihave Hh := (Entails.of_eq (held_S5 (F := F) d (V3 m d))) $$ Hheld
  rw [V3_r, V3_0, V3_1]
  icases Hh with ⟨H0, H1, -, -, H2⟩
  rw [wp_ret]; imodintro; imodintro
  isplitl [Hst]; · iexact Hst
  isplitr [Hb Hts]
  · isplitl [H0]; · iexact H0
    isplitl [H1]; · iexact H1
    iexact H2
  isplitl [Hb] <;> iassumption

def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_v2) = resOf m d

set_option maxRecDepth 16384 in
theorem hfin (d : Dev nD) (s' : Phys nD τ sig (Elt F)) : iprop(FIN m d ∗ SI s') ⊢ (⌜fq m d s'⌝ : sProp 𝕄) := by
  iintro ⟨⟨H0, H1, H2⟩, HSI⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare)
    (f := m ((SparseCore.T d).loc main_arg1)))) $$ [HSI H1]
  · isplitl [HSI] <;> iassumption
  icases H with ⟨%h1, HSI, -⟩
  ihave H := (SI_pointsTo_agree (st := s') (ℓ := (SparseCore.T d).loc main_v2) (I := Finset.univ) (q := fullShare) (f := resOf m d)) $$ [HSI H2]
  · isplitl [HSI] <;> iassumption
  icases H with %h2
  ipureintro
  exact ⟨funext fun i => h0 i (Finset.mem_univ i), funext fun i => h1 i (Finset.mem_univ i), funext fun i => h2 i (Finset.mem_univ i)⟩

def QC : PUnit × MemSt nD τ sig (Elt F) → Prop := fun r => (∀ c : Dev nD, r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_v2) = resOf m c) ∧ r.2.sem = fun _ => 0

/-- The program's run, with what it computes. -/
theorem run_main [∀ e, Nonempty (Elt F e)] (hpre : InRows (ixOf m)) :
    θ_run (Cert.Gather.defs (F := F)) (Cert.Gather.threads (F := F)) ⟨m, fun _ => 0, ρ⟩ (QC m) :=
  SparseCore.Cfg.θ_run_sc_quiescent (K := K (F := F)) (D := D (F := F)) (𝒱 := 𝒱) (EH := EH) (P := P (ixOf m) (tbOf m)) (A := ∅) facts v₀
    (fun q hq => match q with | 0 => nomatch hq)
    (fun q _ => match q with | 0 => tileObl (ixOf m) (tbOf m) facts hpre)
    (fun q _ => match q with | 0 => SparseCore.Cfg.VecSplit.of_plain (vecSplit (ixOf m) (tbOf m)))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.TakeValue.lean ====
/-
  What `jnp.take` of a table's rows is, at a list of row numbers that are all rows of the table: row by row, the rows
  the list names. The operations are the ones jax prints for it: a negative number counted from the end, the rows
  gathered, and a row whose number lies outside the table replaced.
-/
module

public import proofs.«01_k».proof.Defs
public import proofs.«01_k».proof.Proof.Gen.GatherReference
public import Idealize.ShloMosaic.Lib.ReduceAll
public import Idealize.ShloMosaic.Lib.Pipeline.Value

@[expose] public section

noncomputable section

namespace Cert.Proof.Take

open Cert.GatherReference Cert.GatherReference.Gen
open Idealize.ShloMosaic

/-- Entry `n` of the list. -/
abbrev n1 (n : ℕ) (h : n < 2048) : S2048.Idx := fun | 0 => ⟨n, h⟩
/-- Entry `n` of the list, held as a column. -/
abbrev n2 (n : ℕ) (h : n < 2048) : S2048x1.Idx := fun | 0 => ⟨n, h⟩ | 1 => ⟨0, Nat.one_pos⟩
/-- Row `r`, element `c` of the table. -/
abbrev r2 (r c : ℕ) (hr : r < 65536) (hc : c < 8) : S65536x8.Idx := fun | 0 => ⟨r, hr⟩ | 1 => ⟨c, hc⟩

/-- The rows of the table the list names. -/
def rowsOf {α : Type} (x : S65536x8.Idx → α) (ix : S2048.Idx → BitVec 32) : S2048x8.Idx → α := fun j =>
  x (r2 ((ix (n1 (j 0).val (j 0).isLt)).toNat % 65536) (j 1).val (Nat.mod_lt _ (by decide)) (j 1).isLt)

/-- A gather with jax's dimension numbers for a table's rows reads the row its start index names. -/
theorem gather_rows {α : Type} (x : S65536x8.Idx → α) (idx : IVec S2048x1 32) (j : S2048x8.Idx) (n : ℕ)
    (hn : (idx (n2 (j 0).val (j 0).isLt)).toInt = (n : ℤ)) (hlt : n < 65536) :
    Host.gather gather_S65536x8_S2048x1_S2048x8_1_0_n_n_0_1_18 x idx j = x (r2 n (j 1).val hlt (j 1).isLt) := by
  set D := gather_S65536x8_S2048x1_S2048x8_1_0_n_n_0_1_18 with hD
  have hrow : D.start j idx 0 = n := by
    unfold GatherDims.start
    rw [dif_pos (show (0 : Fin 2) ∈ D.startIndexMap from List.mem_singleton.mpr rfl)]
    have hs : D.siIdx j ⟨List.idxOf (0 : Fin 2) D.startIndexMap, List.idxOf_lt_length_iff.2 (List.mem_singleton.mpr rfl)⟩
        = n2 (j 0).val (j 0).isLt := by
      funext b
      match b with
      | 0 => rfl
      | 1 => rfl
    rw [hs, hn]
    show min n (65536 - 1) = n
    omega
  have hcol : D.start j idx 1 = 0 := by
    unfold GatherDims.start
    exact dif_neg (by decide)
  unfold Host.gather
  refine congrArg x (funext fun a => Fin.ext ?_)
  match a with
  | 0 =>
    show D.start j idx 0 + D.batchCoord j 0 + D.offCoord j 0 = n
    rw [hrow, D.batchCoord_eq_zero j 0 List.not_mem_nil, D.offCoord_eq_zero j 0 (by decide)]
    rfl
  | 1 =>
    show D.start j idx 1 + D.batchCoord j 1 + D.offCoord j 1 = (j 1).val
    rw [hcol, D.batchCoord_eq_zero j 1 List.not_mem_nil, Nat.zero_add]
    rfl

/-- The words of row numbers inside the table, read with a sign. -/
theorem word_toInt (v : BitVec 32) (h : v.toNat < 65536) : v.toInt = (v.toNat : ℤ) := by
  rw [BitVec.toInt_eq_toNat_cond]; split <;> omega
theorem word_nonneg (v : BitVec 32) (h : v.toNat < 65536) : IntOp.cmpi .slt v 0#32 = 0#1 := by
  have e := word_toInt v h
  have : ¬ (v.toInt < 0) := by rw [e]; simp
  unfold IntOp.cmpi
  simp [BitVec.slt_eq_decide, this]
theorem word_ge (v : BitVec 32) (h : v.toNat < 65536) : IntOp.cmpi .sge v 0#32 = 1#1 := by
  have e := word_toInt v h
  unfold IntOp.cmpi
  simp [BitVec.sle_eq_decide, e]
theorem word_le (v : BitVec 32) (h : v.toNat < 65536) : IntOp.cmpi .sle v 65535#32 = 1#1 := by
  have e := word_toInt v h
  have : v.toInt ≤ 65535 := by rw [e]; omega
  unfold IntOp.cmpi
  simp [BitVec.sle_eq_decide, this]

variable {F : FTy → Type} [FloatOps F]

/-- The list with negative numbers counted from the end, as a column. -/
abbrev wrapped (ix : IVec S2048 32) : IVec S2048x1 32 :=
  broadcastInDim S2048x1 ![0] bcast_S2048_S2048x1_0 (select (cmpi .slt ix (broadcastInDim S2048 ![] bcast_S_S2048 (constantI S_ 32 0#32)))
    (addi ix (broadcastInDim S2048 ![] bcast_S_S2048 (constantI S_ 32 65536#32))) ix)

/-- `jnp.take(x, ix, axis=0)`, as it is printed. -/
abbrev taken (x : FVec F S65536x8 .f32) (ix : IVec S2048 32) : FVec F S2048x8 .f32 :=
  select (broadcastInDim S2048x8 ![0] bcast_S2048_S2048x8_0 (Host.reduce IntOp.andi
      (andi (cmpi .sge (wrapped ix) (broadcastInDim S2048x1 ![] bcast_S_S2048x1 (constantI S_ 32 0#32)))
        (cmpi .sle (wrapped ix) (broadcastInDim S2048x1 ![0, 1] bcast_S1x1_S2048x1_0_1 (broadcastInDim S1x1 ![1] bcast_S1_S1x1_1 (constantI S1 32 65535#32)))))
      (constantI S_ 1 1#1) reducesTo_S2048x1_S2048_d1 h_S_))
    (Host.gather gather_S65536x8_S2048x1_S2048x8_1_0_n_n_0_1_18 x (wrapped ix))
    (broadcastInDim S2048x8 ![] bcast_S_S2048x8 (constant S_ .f32 0x7FC00000#32))

theorem wrapped_apply (ix : IVec S2048 32) (hix : ∀ k, (ix k).toNat < 65536) (i : S2048x1.Idx) :
    wrapped ix i = ix (n1 (i 0).val (i 0).isLt) := by
  have e : (fun a => if h1 : S2048.size a = 1 then (⟨0, by omega⟩ : Fin (S2048.size a))
      else ⟨(i ((![0] : Fin 1 → Fin 2) a)).val, (i ((![0] : Fin 1 → Fin 2) a)).isLt.trans_le (by revert a; decide)⟩) = n1 (i 0).val (i 0).isLt := by
    funext a
    match a with
    | 0 => rfl
  show Scalar.select (IntOp.cmpi .slt (ix _) 0#32) _ (ix _) = _
  rw [word_nonneg _ (hix _)]
  exact congrArg ix e

/-- Taking the rows of a list of rows of the table is reading them. -/
theorem taken_eq (x : FVec F S65536x8 .f32) (ix : IVec S2048 32) (hix : ∀ k, (ix k).toNat < 65536) :
    taken x ix = rowsOf x ix := by
  funext j
  have hw := wrapped_apply ix hix
  have hin : ∀ j', Host.reduce IntOp.andi
      (andi (cmpi .sge (wrapped ix) (broadcastInDim S2048x1 ![] bcast_S_S2048x1 (constantI S_ 32 0#32)))
        (cmpi .sle (wrapped ix) (broadcastInDim S2048x1 ![0, 1] bcast_S1x1_S2048x1_0_1 (broadcastInDim S1x1 ![1] bcast_S1_S1x1_1 (constantI S1 32 65535#32)))))
      (constantI S_ 1 1#1) reducesTo_S2048x1_S2048_d1 h_S_ j' = 1#1 := fun j' =>
    Host.reduce_andi_one _ _ _ _ _ rfl fun i => by
      show IntOp.andi (IntOp.cmpi .sge (wrapped ix i) 0#32) (IntOp.cmpi .sle (wrapped ix i) 65535#32) = 1#1
      rw [hw, word_ge _ (hix _), word_le _ (hix _)]
      rfl
  show Scalar.select (Host.reduce IntOp.andi _ _ _ _ _) _ _ = _
  rw [hin]
  show Host.gather _ _ _ _ = _
  rw [gather_rows x (wrapped ix) j (ix (n1 (j 0).val (j 0).isLt)).toNat (by rw [hw]; exact word_toInt _ (hix _)) (hix _)]
  unfold rowsOf
  refine congrArg x (funext fun a => Fin.ext ?_)
  match a with
  | 0 => exact (Nat.mod_eq_of_lt (hix _)).symm
  | 1 => rfl

end Cert.Proof.Take

end
-- ==== Proof.GatherValue.lean ====
/-
  The SparseCore gather against `jnp.take`: its run under the precondition that every row number is a row of the table,
  and that what it leaves in its result is the rows the list names.
-/
module

public import proofs.«01_k».proof.Proof.GatherRun
public import proofs.«01_k».proof.Proof.TakeValue
public import proofs.«01_k».proof.Proof.Gen.GatherReference.Run
public import proofs.«01_k».proof.Proof.Gen.Pre_idx_in_rows
public import Idealize.ShloMosaic.Lib.Quiescent
public import Idealize.ShloMosaic.Init

@[expose] public section

noncomputable section

namespace Cert.Proof.Gather

open Cert.Gather Cert.Gather.Gen Cert.Proof.Take
open Idealize.ShloMosaic Idealize.SL.Sem

/-- The flat result of the gather over the table read as 4096 rows of 128, reshaped, is the rows the list names. -/
theorem outVal_rows {α : Type} (x : S65536x8.Idx → α) (ix : S2048.Idx → BitVec 32) (hix : ∀ k, (ix k).toNat < 65536)
    (h₁ : S65536x8.ShapeCasts S4096x128) (h₂ : S16384.ShapeCasts S2048x8) :
    shapeCast S2048x8 (outVal ix (shapeCast S4096x128 x h₁)) h₂ = rowsOf x ix := by
  funext j
  have hj0 : (j 0).val < 2048 := (j 0).isLt
  have hj1 : (j 1).val < 8 := (j 1).isLt
  have hn : 8 * (j 0).val + (j 1).val < 16384 := by omega
  have hk : ∀ (n : ℕ) (hn' : n < 2048), n = (j 0).val → ix (i1 n hn') = ix (n1 (j 0).val hj0) := by rintro n hn' rfl; rfl
  rw [shapeCast_apply _ h₂ j (fun | 0 => ⟨8 * (j 0).val + (j 1).val, hn⟩)
    (by rw [Shape.rowMajor_val_one (d := ![16384]), Shape.rowMajor_val_two (d := ![2048, 8])]; show _ = (j 0).val * 8 + (j 1).val; show 8 * (j 0).val + (j 1).val = _; omega)]
  show pick ix _ (8 * (j 0).val + (j 1).val) hn = _
  unfold pick rowsOf
  have hd := hk ((8 * (j 0).val + (j 1).val) / 8) (by omega) (by omega)
  have hlt := hix (n1 (j 0).val hj0)
  refine (shapeCast_apply x h₁ _ _ ?_)
  rw [Shape.rowMajor_val_two (d := ![65536, 8]), Shape.rowMajor_val_two (d := ![4096, 128])]
  show (ix (n1 (j 0).val hj0)).toNat % 65536 * 8 + (j 1).val
    = (ix (i1 ((8 * (j 0).val + (j 1).val) / 8) (by omega))).toNat / 16 % 4096 * 128
      + ((ix (i1 ((8 * (j 0).val + (j 1).val) / 8) (by omega))).toNat % 16 * 8 + (8 * (j 0).val + (j 1).val) % 8)
  rw [hd]
  omega

/-- A word that passes both comparisons of the precondition is a row number. -/
theorem word_in_rows (v : BitVec 32) (h : IntOp.andi (IntOp.cmpi .sge v 0#32) (IntOp.cmpi .slt v 65536#32) = 1#1) :
    v.toNat < 65536 := by
  unfold IntOp.andi IntOp.cmpi at h
  have h1 : (0#32 : BitVec 32).sle v = true := by
    by_contra hc; rw [Bool.not_eq_true] at hc; simp [hc] at h
  have h2 : v.slt 65536#32 = true := by
    by_contra hc; rw [Bool.not_eq_true] at hc; simp [hc] at h
  rw [BitVec.sle_eq_decide, decide_eq_true_eq] at h1
  rw [BitVec.slt_eq_decide, decide_eq_true_eq] at h2
  rw [show (65536#32 : BitVec 32).toInt = 65536 from rfl] at h2
  rw [show (0#32 : BitVec 32).toInt = 0 from rfl] at h1
  rw [BitVec.toInt_eq_toNat_cond] at h1 h2
  split at h1 <;> omega

/-- The precondition gives every entry of the list. -/
theorem inRows_of_pre (m : (ℓ : Loc nD τ sig) → Buf (Elt Bits) ℓ) (h : Pre_Gather m) : InRows (ixOf m) := fun d k => by
  have e := congrFun (h d) k
  simp only [Pre_idx_in_rows.fn, andi, cmpi, broadcastInDim, constantI] at e
  exact word_in_rows _ e

theorem frame_gather : Cert.quiescent_Gather := fun m ρ hpre =>
  (θ_run Cert.Gather.defs Cert.Gather.threads _).mono (fun _ h => ⟨fun c => ⟨(h.1 c).1, (h.1 c).2.1⟩, h.2⟩)
    (run_main m ρ (inRows_of_pre m hpre))

theorem frame_reference : Cert.quiescent_GatherReference := fun m ρ _ =>
  (θ_run Cert.GatherReference.defs _ _).mono
    (fun r h => ⟨fun c => ⟨(h c).2.1, (h c).2.2⟩, sem_eq_zero_of_no_sems (by decide) r.2⟩)
    (Cert.GatherReference.Value.run m ρ)

theorem bitexact : Cert.bitexact_Gather_GatherReference := fun m ρ m' ρ' hpre hag =>
  ⟨fun c => resOf m c,
    (θ_run Cert.Gather.defs Cert.Gather.threads _).mono (fun _ h c => ⟨(h.1 c).2.2, (h.1 c).1, (h.1 c).2.1⟩)
      (run_main m ρ (inRows_of_pre m hpre)),
    (θ_run Cert.GatherReference.defs _ _).mono (fun r h c => by
      obtain ⟨hv, h0, h1⟩ := h c
      refine ⟨hv.trans ?_, h0, h1⟩
      have hin : ∀ k, (ixOf m c k).toNat < 65536 := fun k => inRows_of_pre m hpre c k
      rw [(hag c).1, (hag c).2]
      exact (taken_eq _ _ hin).trans (outVal_rows _ _ hin _ _).symm)
      (Cert.GatherReference.Value.run m' ρ')⟩

end Cert.Proof.Gather

end
-- ==== Proof.ScTile.lean ====
/-
  One task of the SparseCore call, with what it writes. A task copies its 64 entries of the index list into its
  scratch, shifts each right by four into a list of table rows, gathers those rows (128 elements each: sixteen rows of
  eight), picks from each the eight elements the index's low four bits name, and copies the 512 elements out. The
  statement is over any index list and table: every entry of the list below 65536, the task's block of the result ends
  at `outVal`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The pipeline's own rounds. -/
abbrev UP : Type := URounds (GSem nD τ sig) Unit
abbrev UU : Type := UH × (UP × Counters)

local notation "𝕄" => MT nD τ sig (HIx 1) (Elt F) ℕ UU ℕ

/-! ## The arrays and the scratch -/

abbrev iLoc (d : Dev nD) : Loc nD τ sig := (SparseCore.T d).loc main_v6
abbrev tLoc (d : Dev nD) : Loc nD τ sig := (SparseCore.T d).loc main_v7
abbrev oLoc (d : Dev nD) : Loc nD τ sig := (SparseCore.T d).loc main_v8

local notation "iV" => (Memref.whole Cert.KernelIdeal.main_v6_scv : Memref Cert.KernelIdeal.sig Kind.scVector Space.hbm Cert.KernelIdeal.S2048 EltTy.i32)
local notation "tV" => (Memref.whole Cert.KernelIdeal.main_v7_scv : Memref Cert.KernelIdeal.sig Kind.scVector Space.hbm Cert.KernelIdeal.S4096x128 EltTy.f32)
local notation "oV" => (Memref.whole Cert.KernelIdeal.main_v8_scv : Memref Cert.KernelIdeal.sig Kind.scVector Space.hbm Cert.KernelIdeal.S16384 EltTy.f32)
local notation "aV" => (Memref.whole Cert.KernelIdeal.cc1_scratch0 : Memref Cert.KernelIdeal.sig Kind.scVector Space.vmem Cert.KernelIdeal.S64 EltTy.i32)
local notation "rV" => (Memref.whole Cert.KernelIdeal.cc1_scratch1 : Memref Cert.KernelIdeal.sig Kind.scVector Space.vmem Cert.KernelIdeal.S64 EltTy.i32)
local notation "gV" => (Memref.whole Cert.KernelIdeal.cc1_scratch2 : Memref Cert.KernelIdeal.sig Kind.scVector Space.vmem Cert.KernelIdeal.S64x128 EltTy.f32)
local notation "uV" => (Memref.whole Cert.KernelIdeal.cc1_scratch3 : Memref Cert.KernelIdeal.sig Kind.scVector Space.vmem Cert.KernelIdeal.S512 EltTy.f32)

theorem odiv : 32 ∣ S16384.size 0 := ⟨512, rfl⟩
/-- Block `w` of the result: 512 elements. -/
abbrev orow (w : Fin 32) : Rect S16384 := Rect.part (s := S16384) (a₀ := 0) odiv w
abbrev oSet (w : Fin 32) : Finset S16384.Idx := ((oV).view.slice (orow w)).set

/-- Element `n` of a list of 2048. -/
abbrev i1 (n : ℕ) (h : n < 2048) : S2048.Idx := fun | 0 => ⟨n, h⟩
/-- Row `r`, lane `c` of the table. -/
abbrev t2 (r c : ℕ) (hr : r < 4096) (hc : c < 128) : S4096x128.Idx := fun | 0 => ⟨r, hr⟩ | 1 => ⟨c, hc⟩

/-- Element `n` of the result: element `n % 8` of the row of eight that entry `n / 8` of the list names, found in the
    table of rows of 128 at row `entry / 16`, lane `8 · (entry % 16) + n % 8`. -/
def pick {α : Type} (ix : S2048.Idx → BitVec 32) (tb : S4096x128.Idx → α) (n : ℕ) (h : n < 16384) : α :=
  tb (t2 ((ix (i1 (n / 8) (by omega))).toNat / 16 % 4096) ((ix (i1 (n / 8) (by omega))).toNat % 16 * 8 + n % 8)
    (Nat.mod_lt _ (by decide)) (by omega))

def outVal {α : Type} (ix : S2048.Idx → BitVec 32) (tb : S4096x128.Idx → α) : S16384.Idx → α :=
  fun j => pick ix tb (j 0).val (j 0).isLt

/-! ## Read shares: a share halved `n` times -/

/-- Part `i` of the share `q` halved `n` times. -/
def shr : (n : ℕ) → PosShare TreeShare → Fin (2 ^ n) → PosShare TreeShare
  | 0, q, _ => q
  | n + 1, q, i => if i.val % 2 = 0 then shr n q.left ⟨i.val / 2, by have := i.isLt; omega⟩ else shr n q.right ⟨i.val / 2, by have := i.isLt; omega⟩

/-- A number below `2 ^ (n + 1)` is its half and its parity. -/
def halfEquiv (n : ℕ) : Fin (2 ^ n) ⊕ Fin (2 ^ n) ≃ Fin (2 ^ (n + 1)) where
  toFun := Sum.elim (fun i => ⟨2 * i.val, by have := i.isLt; omega⟩) (fun i => ⟨2 * i.val + 1, by have := i.isLt; omega⟩)
  invFun i := if i.val % 2 = 0 then .inl ⟨i.val / 2, by have := i.isLt; omega⟩ else .inr ⟨i.val / 2, by have := i.isLt; omega⟩
  left_inv := by
    rintro (i | i)
    · simp
    · have h : (2 * i.val + 1) % 2 ≠ 0 := by omega
      simp only [Sum.elim_inr, h, if_false]
      congr 1; ext; simp; omega
  right_inv i := by
    by_cases h : i.val % 2 = 0
    · simp only [h, if_true, Sum.elim_inl]; ext; simp; omega
    · simp only [h, if_false, Sum.elim_inr]; ext; simp; omega

theorem shr_inl (n : ℕ) (q : PosShare TreeShare) (i : Fin (2 ^ n)) : shr (n + 1) q (halfEquiv n (.inl i)) = shr n q.left i := by
  simp [shr, halfEquiv]
theorem shr_inr (n : ℕ) (q : PosShare TreeShare) (i : Fin (2 ^ n)) : shr (n + 1) q (halfEquiv n (.inr i)) = shr n q.right i := by
  have h : (2 * i.val + 1) % 2 ≠ 0 := by omega
  have e : (2 * i.val + 1) / 2 = i.val := by omega
  simp only [shr, halfEquiv, Equiv.coe_fn_mk, Sum.elim_inr, h, if_false, e]

/-- A buffer held at a share is held at every part of it. -/
theorem pointsTo_shr {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{shr n q i} f
  | 0, q => (bigSep_univ_of_subsingleton (0 : Fin 1) (Φ := fun i : Fin (2 ^ 0) => (ℓ ↦[I]{shr 0 q i} f : sProp 𝕄))).symm
  | n + 1, q => by
    rw [bigSep_univ_equiv (halfEquiv n) (fun i : Fin (2 ^ (n + 1)) => (ℓ ↦[I]{shr (n + 1) q i} f : sProp 𝕄)), bigSep_univ_sum]
    simp only [shr_inl, shr_inr]
    rw [← pointsTo_shr I f n q.left, ← pointsTo_shr I f n q.right]
    exact BI.Entails.antisymm (pointsTo_share (PosShare.mem_left_op_right q)).1 (pointsTo_share (PosShare.mem_left_op_right q)).2

/-- Task `w`'s share of what every task reads. -/
abbrev shq (w : Fin 32) : PosShare TreeShare := shr 5 fullShare w

variable [FloatOps F]

/-! ## The task -/

section Tile

variable (ix : (d : Dev nD) → Buf (Elt F) (iLoc d)) (tb : (d : Dev nD) → Buf (Elt F) (tLoc d))

/-- Every entry of the index list names a row of eight. -/
def InRows : Prop := ∀ (d : Dev nD) (j : S2048.Idx), (ix d j).toNat < 65536

variable (d : Dev nD) (L : grid1.Coords)

abbrev cV (L : grid1.Coords) : Fin τ.nSC := (L 0).castLE hcore1
abbrev jV (L : grid1.Coords) : Fin τ.nSub := (L 1).castLE hsub1
/-- The task's number: twice its subcore's and its SparseCore's. -/
abbrev wid (L : grid1.Coords) : Fin 32 :=
  ⟨2 * (L 1).val + (L 0).val, by have h0 : (L 0).val < 2 := (L 0).isLt; have h1 : (L 1).val < 16 := (L 1).isLt; omega⟩

abbrev iPts (q : PosShare TreeShare) : sProp 𝕄 := iLoc d ↦{q} ix d
abbrev tPts (q : PosShare TreeShare) : sProp 𝕄 := tLoc d ↦{q} tb d
abbrev oRowPts (w : Fin 32) (f : Buf (Elt F) (oLoc d)) : sProp 𝕄 := oLoc d ↦[oSet w]{fullShare} f
/-- What the call leaves in its result. -/
abbrev OUT : Buf (Elt F) (oLoc d) := outVal (α := F .f32) (ix d) (tb d)

abbrev irowK (L : grid1.Coords) : Rect S2048 := Rect.unit (s := S2048) (k1_off1 L) S64.size (k1_off1_inb L)
abbrev orowK (L : grid1.Coords) : Rect S16384 := Rect.unit (s := S16384) (k1_off3 L) S512.size (k1_off3_inb L)
abbrev iRowK (L : grid1.Coords) : Memref sig .scVector .hbm S64 .i32 := (iV).slice (irowK L) (fun _ => rfl)
abbrev oRowK (L : grid1.Coords) : Memref sig .scVector .hbm S512 .f32 := (oV).slice (orowK L) (fun _ => rfl)
abbrev tAllK : Memref sig .scVector .hbm S4096x128 .f32 :=
  (tV).slice (Rect.unit (s := S4096x128) ![0, 0] S4096x128.size inb_S4096x128_S4096x128_0_0) (fun _ => rfl)

omit [FloatOps F] in
theorem orowK_eq : orowK L = orow (wid L) := by
  unfold orowK orow Rect.part Rect.block
  congr 1 <;> funext a
  · rw [k1_off3_eq]
    match a with
    | 0 => simp [Shape.partIx, Shape.partSize]; omega
  · match a with
    | 0 => simp [Shape.partSize]

omit [FloatOps F] in
theorem pts_oRowK (f : Buf (Elt F) (oLoc d)) :
    ((oRowK L).view.loc (V d (cV L) (jV L)) ↦[(oRowK L).view.set]{fullShare} f : sProp 𝕄) = oLoc d ↦[oSet (wid L)]{fullShare} f := by
  have e : (oRowK L).view.set = oSet (wid L) := by
    show ((oV).view.slice (orowK L)).set = ((oV).view.slice (orow (wid L))).set
    exact orowK_eq L ▸ rfl
  rw [e]
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_aV (f : Buf (Elt F) ((V d (cV L) (jV L)).loc cc1_scratch0)) :
    ((aV).view.loc (V d (cV L) (jV L)) ↦{fullShare} f : sProp 𝕄) = (V d (cV L) (jV L)).loc cc1_scratch0 ↦{fullShare} f := rfl
omit [FloatOps F] in
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl
omit [FloatOps F] in
theorem pts_gV (f : Buf (Elt F) ((V d (cV L) (jV L)).loc cc1_scratch2)) :
    ((gV).view.loc (V d (cV L) (jV L)) ↦{fullShare} f : sProp 𝕄) = (V d (cV L) (jV L)).loc cc1_scratch2 ↦{fullShare} f := rfl
omit [FloatOps F] in
theorem pts_uV (f : Buf (Elt F) ((V d (cV L) (jV L)).loc cc1_scratch3)) :
    ((uV).view.loc (V d (cV L) (jV L)) ↦{fullShare} f : sProp 𝕄) = (V d (cV L) (jV L)).loc cc1_scratch3 ↦{fullShare} f := rfl

abbrev gCell (d : Dev nD) (c : Fin τ.nSC) (i : Fin τ.nSub) : GSem nD τ sig := (V d c i, .dma cc1_scratch4.sem)
abbrev aCell (d : Dev nD) (c : Fin τ.nSC) (i : Fin τ.nSub) : GSem nD τ sig := (V d c i, .dma cc1_scoped0.sem)
abbrev oCell (d : Dev nD) (c : Fin τ.nSC) (i : Fin τ.nSub) : GSem nD τ sig := (V d c i, .dma cc1_scoped1.sem)

omit [FloatOps F] in
/-- The body's three semaphore cells are among the subcore's own. -/
theorem ownSems0_V :
    (ownSems0 (V d (cV L) (jV L)) : sProp 𝕄)
      = iprop(semVal (gCell d (cV L) (jV L)) 0 ∗ semVal (aCell d (cV L) (jV L)) 0 ∗ semVal (oCell d (cV L) (jV L)) 0
          ∗ bigSep ((((ownCells (V d (cV L) (jV L))).erase (gCell d (cV L) (jV L))).erase (aCell d (cV L) (jV L))).erase (oCell d (cV L) (jV L))) fun g => semVal g 0) := by
  unfold SparseCore.Cfg.ownSems0
  rw [SparseCore.bigSep_erase' ((mem_ownCells (g := gCell d (cV L) (jV L))).mpr ⟨rfl, by
      show (SemLoc.dma cc1_scratch4.sem : SemLoc sig).isScoped .scVector = true; decide⟩),
    SparseCore.bigSep_erase' (Finset.mem_erase.mpr ⟨by simp [gCell, aCell]; decide, (mem_ownCells (g := aCell d (cV L) (jV L))).mpr ⟨rfl, by
      show (SemLoc.dma cc1_scoped0.sem : SemLoc sig).isScoped .scVector = true; decide⟩⟩),
    SparseCore.bigSep_erase' (Finset.mem_erase.mpr ⟨by simp [aCell, oCell]; decide, Finset.mem_erase.mpr ⟨by simp [gCell, oCell]; decide,
      (mem_ownCells (g := oCell d (cV L) (jV L))).mpr ⟨rfl, by show (SemLoc.dma cc1_scoped1.sem : SemLoc sig).isScoped .scVector = true; decide⟩⟩⟩)]

omit [FloatOps F] in
/-- The four scratch buffers are among the subcore's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  have own (r : Ref sig .scVector) (h : _) :
      (Proc.scVector (cV L) (jV L)).devRef r ∈ ownRefs (τ := τ) (.scVector (cV L) (jV L)) :=
    SparseCore.Cfg.mem_ownRefs_of_owner (p := Proc.scVector (cV L) (jV L)) (b := (Proc.scVector (cV L) (jV L)).devRef r) h
  have ne {r r' : Ref sig .scVector} (h : r ≠ r') : (Proc.scVector (cV L) (jV L)).devRef r ≠ (Proc.scVector (cV L) (jV L)).devRef r' :=
    fun e => h (Proc.devRef_injective _ e)
  unfold SparseCore.Cfg.ownBufs
  refine (SparseCore.bigSep_erase' (own cc1_scratch0 rfl)).trans ?_
  rw [SparseCore.bigSep_erase' (Finset.mem_erase.mpr ⟨ne (show cc1_scratch1 ≠ cc1_scratch0 by decide), own cc1_scratch1 rfl⟩),
    SparseCore.bigSep_erase' (Finset.mem_erase.mpr ⟨ne (show cc1_scratch2 ≠ cc1_scratch1 by decide),
      Finset.mem_erase.mpr ⟨ne (show cc1_scratch2 ≠ cc1_scratch0 by decide), own cc1_scratch2 rfl⟩⟩),
    SparseCore.bigSep_erase' (Finset.mem_erase.mpr ⟨ne (show cc1_scratch3 ≠ cc1_scratch2 by decide),
      Finset.mem_erase.mpr ⟨ne (show cc1_scratch3 ≠ cc1_scratch1 by decide),
      Finset.mem_erase.mpr ⟨ne (show cc1_scratch3 ≠ cc1_scratch0 by decide), own cc1_scratch3 rfl⟩⟩⟩)]

/-! ### What the scratch buffers hold -/

abbrev a1 (n : ℕ) (h : n < 64) : S64.Idx := fun | 0 => ⟨n, h⟩

/-- The task's 64 entries of the index list. -/
def aC : S64.Idx → BitVec 32 := fun x =>
  ix d (i1 (64 * (wid L).val + (x 0).val) (by have h := (wid L).isLt; have h' : (x 0).val < 64 := (x 0).isLt; omega))
/-- The table rows they lie in. -/
def rC : S64.Idx → BitVec 32 := fun x => IntOp.shrsi .vector (aC ix d L x) 4#32
/-- Those rows of the table. -/
def gC : S64x128.Idx → F .f32 := fun y =>
  tb d (t2 ((aC ix d L (a1 (y 0).val (y 0).isLt)).toNat / 16 % 4096) (y 1).val (Nat.mod_lt _ (by decide)) (y 1).isLt)

omit [FloatOps F] in
theorem aC_lt (hpre : InRows ix) (x : S64.Idx) : (aC ix d L x).toNat < 65536 := hpre d _

/-- A signed shift right by four of a non-negative word divides it by sixteen. -/
theorem shr4_toNat (v : BitVec 32) (h : v.toNat < 65536) : (IntOp.shrsi .vector v 4#32).toNat = v.toNat / 16 := by
  have hm : v.msb = false := by rw [BitVec.msb_eq_decide]; simp; omega
  simp [IntOp.shrsi, BitVec.sshiftRight_eq_of_msb_false hm, Nat.shiftRight_eq_div_pow]

omit [FloatOps F] in
theorem rC_toNat (hpre : InRows ix) (x : S64.Idx) : (rC ix d L x).toNat = (aC ix d L x).toNat / 16 :=
  shr4_toNat _ (aC_lt ix d L hpre x)

omit [FloatOps F] in
theorem fetched : (ReadAs.same.apply (View.read (Elt F) (iRowK L).view (ix d)) : S64.Idx → Elt F .i32) = aC ix d L := by
  funext x
  show (iRowK L).view.read (Elt F) (ix d) x = _
  rw [View.read_apply, cast_eq]
  refine congrArg (ix d) (funext fun a => ?_)
  match a with
  | 0 =>
    apply Fin.ext
    show (k1_off1 L) 0 + 1 * (x 0).val = 64 * (2 * (L 1).val + (L 0).val) + (x 0).val
    rw [k1_off1_eq]; simp; omega

omit [FloatOps F] in
theorem gathered (hpre : InRows ix) (hn) (hin) :
    SparseCore.gatherPayload (F := F) (e := .f32) gathers_S4096x128_S64x128 (tAllK.view.read (Elt F) (tb d))
      (SparseCore.rows (F := F) (rC ix d L) hn hin) = gC ix tb d L := by
  funext y
  show tAllK.view.read (Elt F) (tb d) _ = _
  rw [View.read_apply, cast_eq]
  refine congrArg (tb d) (funext fun a => ?_)
  match a with
  | 0 =>
    apply Fin.ext
    show 0 + 1 * (rC ix d L (S64.rowMajor.symm (Fin.cast hn.symm (y 0)))).toNat = (aC ix d L (a1 (y 0).val (y 0).isLt)).toNat / 16 % 4096
    rw [Nat.zero_add, Nat.one_mul, rC_toNat ix d L hpre]
    have e : S64.rowMajor.symm (Fin.cast hn.symm (y 0)) = a1 (y 0).val (y 0).isLt :=
      (Equiv.symm_apply_eq _).mpr (Fin.ext (Shape.rowMajor_val_one (d := ![64]) (a1 (y 0).val (y 0).isLt)).symm)
    have h := aC_lt ix d L hpre (a1 (y 0).val (y 0).isLt)
    rw [Nat.mod_eq_of_lt (by omega)]
    exact congrArg (fun z => (aC ix d L z).toNat / 16) e
  | 1 => exact Fin.ext (show 0 + 1 * (y 1).val = (y 1).val by omega)

/-! ### One trip of the loop: sixteen elements picked -/

theorem trips_eq : k1_t1_loop.trips = 32 := by decide
theorem pay5_toNat : ∀ (k : Fin k1_t1_loop.trips) (x : S16.Idx), (k1_pay5 k x).toNat = 16 * k.val + (x 0).val := by decide +kernel
theorem pay6_toNat : ∀ (k : Fin k1_t1_loop.trips) (x : S16.Idx), (k1_pay6 k x).toNat = (16 * k.val + (x 0).val) / 8 := by decide +kernel

theorem pay7_toNat (k : Fin k1_t1_loop.trips) (v : S16.Idx → BitVec 32) (x : S16.Idx) :
    (k1_pay7 (F := F) k v x).toNat = (v x).toNat % 16 * 8 + (16 * k.val + (x 0).val) % 8 := by
  show (IntOp.addi (IntOp.shli .vector (v x &&& 15#32) 3#32) (k1_pay5 k x &&& 7#32)).toNat = _
  have e1 : (v x &&& 15#32).toNat = (v x).toNat % 16 := by
    rw [BitVec.toNat_and]; exact Nat.and_two_pow_sub_one_eq_mod _ 4
  have e2 : (k1_pay5 k x &&& 7#32).toNat = (16 * k.val + (x 0).val) % 8 := by
    rw [BitVec.toNat_and, pay5_toNat]; exact Nat.and_two_pow_sub_one_eq_mod _ 3
  have e3 : (IntOp.shli .vector (v x &&& 15#32) 3#32).toNat = (v x).toNat % 16 * 8 := by
    simp only [IntOp.shli]
    rw [if_pos (by decide)]
    simp only [BitVec.shiftLeft_eq', BitVec.toNat_shiftLeft, e1, BitVec.toNat_ofNat, Nat.shiftLeft_eq]
    rw [show 2 ^ (3 % 2 ^ 32) = 8 by decide]
    omega
  simp only [IntOp.addi, BitVec.toNat_add, e3, e2]
  omega

theorem lt512 (x : S512.Idx) : (x 0).val < 512 := (x 0).isLt

/-- The element the task writes at place `n` of its block. -/
abbrev uG (n : ℕ) (h : n < 512) : F .f32 :=
  pick (α := F .f32) (ix d) (tb d) (512 * (wid L).val + n) (by have := (wid L).isLt; omega)

/-- The index list's entries and the rows stay; the out scratch is right up to the trip. -/
def inv (k : ℕ) (_ : PUnit) : sProp 𝕄 :=
  iprop(((aV).view.loc (V d (cV L) (jV L)) ↦{fullShare} aC ix d L)
    ∗ ((gV).view.loc (V d (cV L) (jV L)) ↦{fullShare} gC ix tb d L)
    ∗ ∃ f : S512.Idx → F .f32, ⌜∀ x : S512.Idx, (x 0).val < 16 * k → f x = uG ix tb d L (x 0).val (lt512 x)⌝
        ∗ (uV).view.loc (V d (cV L) (jV L)) ↦{fullShare} f)

/-- The lane picked at trip `k`. -/
theorem lane (k : Fin k1_t1_loop.trips) (h1) (h2) (x : S16.Idx) (hx : 16 * k.val + (x 0).val < 512) :
    loadIdx (F := F) (e := .f32) (gC ix tb d L) ![k1_pay6 k, k1_pay7 (F := F) k (loadIdx (F := F) (e := .i32) (aC ix d L) ![k1_pay6 k] h1)] h2 x
      = uG ix tb d L (16 * k.val + (x 0).val) hx := by
  have e6 := pay6_toNat k x
  have e7 := pay7_toNat (F := F) k (loadIdx (F := F) (e := .i32) (aC ix d L) ![k1_pay6 k] h1) x
  have hw := (wid L).isLt
  have hi (n n' : ℕ) (h : n < 2048) (h' : n' < 2048) (e : n = n') : ix d (i1 n h) = ix d (i1 n' h') := by subst e; rfl
  have e : ix d (i1 (64 * (wid L).val + (k1_pay6 k x).toNat) (by omega))
      = ix d (i1 ((512 * (wid L).val + (16 * k.val + (x 0).val)) / 8) (by omega)) := hi _ _ _ _ (by omega)
  refine congrArg (tb d) (funext fun a => ?_)
  match a with
  | 0 => exact Fin.ext (congrArg (fun z : BitVec 32 => z.toNat / 16 % 4096) e)
  | 1 =>
    apply Fin.ext
    show (k1_pay7 (F := F) k (loadIdx (F := F) (e := .i32) (aC ix d L) ![k1_pay6 k] h1) x).toNat = _
    rw [e7]
    show (ix d (i1 (64 * (wid L).val + (k1_pay6 k x).toNat) (by omega))).toNat % 16 * 8 + _ = _
    rw [e]
    show _ = _ + (512 * (wid L).val + (16 * k.val + (x 0).val)) % 8
    omega

theorem lane' (k : Fin k1_t1_loop.trips) (A : S64.Idx → BitVec 32) (G : S64x128.Idx → F .f32) (hA : A = aC ix d L) (hG : G = gC ix tb d L)
    (h1) (h2) (x : S16.Idx) (hx : 16 * k.val + (x 0).val < 512) :
    loadIdx (F := F) (e := .f32) G ![k1_pay6 k, k1_pay7 (F := F) k (loadIdx (F := F) (e := .i32) A ![k1_pay6 k] h1)] h2 x
      = uG ix tb d L (16 * k.val + (x 0).val) hx := by
  subst hA; subst hG; exact lane ix tb d L k h1 h2 x hx

set_option maxHeartbeats 4000000 in
theorem trip (k : Fin k1_t1_loop.trips) :
    inv ix tb d L k.val ⟨⟩ ⊢ wp frame (wpE (defs₀ (F := F)) 𝒱₀ (V d (cV L) (jV L)) none) Set.univ
      (k1_t1_body L tV (Memref.isWhole_whole _) iV (Memref.isWhole_whole _) oV (Memref.isWhole_whole _)
            aV (Memref.isWhole_whole _) rV (Memref.isWhole_whole _) gV (Memref.isWhole_whole _) uV (Memref.isWhole_whole _)
            cc1_scratch4 cc1_scoped0 cc1_scoped1 k ⟨⟩) fun x => inv ix tb d L (k.val + 1) x := by
  unfold k1_t1_body
  simp only [Prog.lift, Prog.bind_op, Prog.bind_ret, Prog.pure_eq_ret]
  have hk : k.val < 32 := lt_of_lt_of_eq k.isLt trips_eq
  have hc1 : k1_chk1 (k1_pay6 k) := by
    intro a x
    match a with
    | 0 =>
      show (k1_pay6 k x).toNat < 64
      rw [pay6_toNat]; have h : (x 0).val < 16 := (x 0).isLt; omega
  unfold inv
  iintro ⟨Ha, Hg, ⟨%f, %hf, Hu⟩⟩
  rw [wp_assume_of _ _ _ _ hc1]
  iapply (SparseCore.wp_vectorLoadIdx 𝒱₀ (V d (cV L) (jV L)) none Set.univ (base := aV) (S := Finset.univ) (q := fullShare) (Finset.subset_univ _)) $$ Ha; iintro Ha
  have hc2 (v : Vec F S16 .i32) : k1_chk2 (k1_pay6 k) (k1_pay7 (F := F) k v) := by
    intro a x
    match a with
    | 0 => exact hc1 0 x
    | 1 =>
      show (k1_pay7 (F := F) k _ x).toNat < 128
      rw [pay7_toNat]; omega
  rw [wp_assume_of _ _ _ _ (hc2 _)]
  iapply (SparseCore.wp_vectorLoadIdx 𝒱₀ (V d (cV L) (jV L)) none Set.univ (base := gV) (S := Finset.univ) (q := fullShare) (Finset.subset_univ _)) $$ Hg; iintro Hg
  sl_exec
  sl_step
  isplitl [Ha]; · iexact Ha
  isplitl [Hg]; · iexact Hg
  iexists _
  isplitr [Hu]; swap; · iexact Hu
  ipureintro
  intro x hx
  rw [← View.read_whole (Val := Elt F) (b := cc1_scratch3) ((uV).view.writes (Elt F) f _)]
  by_cases hlo : (x 0).val < 16 * k.val
  · refine (View.read_writes_cons_miss_of_axis (Val := Elt F) (uV).view f ⟨Rect.unit (s := S512) (k1_off2 k) S16.size (k1_off2_inb k), _⟩ [] x 0 (16 * k.val) 16 ?_ rfl rfl
      (.inl hlo)).trans ?_
    · exact congrFun (k1_off2_eq k) 0
    · exact hf x hlo
  · have hx' : (x 0).val = 16 * k.val + ((x 0).val - 16 * k.val) := by omega
    refine (View.read_writes_cons_hit_of_coords (Val := Elt F) (uV).view f (Rect.unit (s := S512) (k1_off2 k) S16.size (k1_off2_inb k)) _ [] (fun | 0 => ⟨(x 0).val - 16 * k.val, by show _ < 16; omega⟩ : S16.Idx) x ?_).trans ?_
    · intro a
      match a with
      | 0 =>
        show (x 0).val = k1_off2 k 0 + 1 * ((x 0).val - 16 * k.val)
        rw [congrFun (k1_off2_eq k) 0]; show (x 0).val = 16 * k.val + _; omega
    · refine (lane' ix tb d L k _ _ (Memref.read_access_whole (Elt F) _ _) (Memref.read_access_whole (Elt F) _ _) _ _ _
        (by show 16 * k.val + ((x 0).val - 16 * k.val) < 512; have := lt512 x; omega)).trans ?_
      have hn (n n' : ℕ) (h : n < 512) (h' : n' < 512) (e : n = n') : uG ix tb d L n h = uG ix tb d L n' h' := by subst e; rfl
      exact hn _ _ _ _ hx'.symm

end Tile

end Cert.Proof.Whole

end
-- ==== Proof.ScanBody.lean ====
/-
  The body of the grid call, with what it writes. At a point it scores its 4096 rows in four runs of 1024, keeps the
  greatest score and the first row that has it, and either stores the pair (the first point) or keeps the better of it
  and the pair held so far (every later point).
-/
module

public import proofs.«01_k».proof.Proof.ScTile
public import proofs.«01_k».proof.Proof.Gen.KernelIdeal.Launch
public import proofs.«01_k».proof.Proof.Gen.KernelIdeal.Points
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.WordCmp

@[expose] public section

set_option maxRecDepth 16384

noncomputable section

namespace Cert.Proof.Whole

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What a point computes -/

/-- Rows `o` to `o + 1023` of a block. -/
abbrev part (o : ℕ) (h : ∀ a, (![o, 0] : Fin 2 → ℕ) a + S1024x9.size a ≤ S4096x9.size a) (g : Vec F S4096x9 .f32) : Vec F S1024x9 .f32 :=
  View.ld g (Rect.unit (s := S4096x9) ![o, 0] S1024x9.size h)

abbrev p0 (g : Vec F S4096x9 .f32) := part 0 inb_S4096x9_S1024x9_0_0 g
abbrev p1 (g : Vec F S4096x9 .f32) := part 1024 inb_S4096x9_S1024x9_1024_0 g
abbrev p2 (g : Vec F S4096x9 .f32) := part 2048 inb_S4096x9_S1024x9_2048_0 g
abbrev p3 (g : Vec F S4096x9 .f32) := part 3072 inb_S4096x9_S1024x9_3072_0 g

/-- The greatest score of each query over the block. -/
def bestScore (x : Vec F S2048x9 .f32) (g : Vec F S4096x9 .f32) : FVec F S2048x1 .f32 :=
  k0_pay21 (k0_pay5 x) (k0_pay7 x (p0 g)) (k0_pay10 x (p1 g)) (p2 g) (p3 g)

/-- The row that has it. -/
def bestRow (i : grid0.Coords) (x : Vec F S2048x9 .f32) (g : Vec F S4096x9 .f32) : IVec S2048x1 32 :=
  k0_pay22 (BitVec.ofNat 32 (i 0).val) (k0_pay5 x) (k0_pay7 x (p0 g)) (k0_pay8 i x (p0 g)) (k0_pay10 x (p1 g)) (k0_pay11 i x (p1 g)) (p2 g) (p3 g)

/-! ## Which points take which branch -/

abbrev first (i : grid0.Coords) : Prop := k0_cond1 i = 1#1
abbrev later (i : grid0.Coords) : Prop := k0_cond2 i = 1#1

theorem first_iff : ∀ t : Fin cfg0.N, first (grid0.coords t) ↔ t.val = 0 :=
  (by decide +kernel : ∀ t : Fin grid0.N, first (grid0.coords t) ↔ t.val = 0)
theorem later_iff : ∀ t : Fin cfg0.N, later (grid0.coords t) ↔ t.val ≠ 0 :=
  (by decide +kernel : ∀ t : Fin grid0.N, later (grid0.coords t) ↔ t.val ≠ 0)

/-! ## The body -/

theorem zeros : (![0, 0] : Fin 2 → ℕ) = fun _ => 0 := funext fun a => by fin_cases a <;> rfl

/-- One store over a whole view, read back. -/
theorem read_store {e : EltTy} (v : View sig .tc .vmem S2048x1 e) (f : v.ty.Contents (Elt F)) (w : S2048x1.Idx → Elt F e) :
    v.read (Elt F) (v.writes (Elt F) f [⟨Rect.unit (s := S2048x1) ![0, 0] S2048x1.size inb_S2048x1_S2048x1_0_0, w⟩]) = w := by
  rw [View.read_writes_eq_canon _ _ _ (View.cover_of_tiledL _ S2048x1.size (by sl_kernel_rfl)), View.canon_unit_zero zeros]

variable (c : Dev nD) (i : grid0.Coords)
  (arg1 : Memref sig .tc .vmem S2048x9 .f32) (harg1 : arg1.IsWhole) (arg2 : Memref sig .tc .vmem S4096x9 .f32) (harg2 : arg2.IsWhole)
  (arg3 : Memref sig .tc .vmem S2048x1 .i32) (harg3 : arg3.IsWhole) (arg4 : Memref sig .tc .vmem S2048x1 .f32) (harg4 : arg4.IsWhole)
  (x : Vec F S2048x9 .f32) (g : Vec F S4096x9 .f32)

set_option maxHeartbeats 1000000 in
/-- The first point stores its pair. -/
theorem body_first (hc0 : first i) (hc1 : ¬later i) (E : Set ℕ) (Q : PUnit → sProp 𝕄) :
    iprop(owns (c : Thread nD τ) arg1 fullShare x ∗ owns (c : Thread nD τ) arg2 fullShare g ∗ (∃ d, owns (c : Thread nD τ) arg3 fullShare d)
        ∗ (∃ d, owns (c : Thread nD τ) arg4 fullShare d)
        ∗ (iprop(owns (c : Thread nD τ) arg1 fullShare x ∗ owns (c : Thread nD τ) arg2 fullShare g
            ∗ owns (c : Thread nD τ) arg3 fullShare (bestRow i x g) ∗ owns (c : Thread nD τ) arg4 fullShare (bestScore x g)) -∗ Q ⟨⟩))
      ⊢ wp frame (wpE (defs₀ (F := F)) Variants.none c none) E (cc0__scan_body i arg1 harg1 arg2 harg2 arg3 harg3 arg4 harg4) Q := by
  simp only [cc0__scan_body_eq_skeleton]; unfold cc0__scan_body_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, Hk⟩
  obtain rfl := harg1.eq_unread hf0; obtain rfl := harg2.eq_unread hf1
  sl_exec (disch := first | sl_exact hc0 | sl_exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]
  · iexists _; isplitr; swap; · iexact H2
    ipureintro
    rw [read_store]
    sl_unfold_words
    unfold bestRow
    simp only [View.readAt_eq_ld, harg1.read_unread, harg2.read_unread, View.ld_unit_zero (S := S2048x9) zeros]
    rfl
  iexists _; isplitr; swap; · iexact H3
  ipureintro
  rw [read_store]
  sl_unfold_words
  unfold bestScore k0_pay1
  simp only [View.readAt_eq_ld, harg1.read_unread, harg2.read_unread, View.ld_unit_zero (S := S2048x9) zeros, shapeCast_self]
  rfl

set_option maxHeartbeats 1000000 in
/-- A later point keeps the better of its pair and the pair held: the held one where the scores are equal. -/
theorem body_later (hc0 : ¬first i) (hc1 : later i) (b : Vec F S2048x1 .f32) (r : Vec F S2048x1 .i32) (E : Set ℕ) (Q : PUnit → sProp 𝕄) :
    iprop(owns (c : Thread nD τ) arg1 fullShare x ∗ owns (c : Thread nD τ) arg2 fullShare g ∗ owns (c : Thread nD τ) arg3 fullShare r
        ∗ owns (c : Thread nD τ) arg4 fullShare b
        ∗ (iprop(owns (c : Thread nD τ) arg1 fullShare x ∗ owns (c : Thread nD τ) arg2 fullShare g
            ∗ owns (c : Thread nD τ) arg3 fullShare (k0_pay4 (bestScore x g) (bestRow i x g) b r)
            ∗ owns (c : Thread nD τ) arg4 fullShare (k0_pay3 (bestScore x g) b b)) -∗ Q ⟨⟩))
      ⊢ wp frame (wpE (defs₀ (F := F)) Variants.none c none) E (cc0__scan_body i arg1 harg1 arg2 harg2 arg3 harg3 arg4 harg4) Q := by
  simp only [cc0__scan_body_eq_skeleton]; unfold cc0__scan_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1
  obtain rfl := harg3.eq_unread hf2; obtain rfl := harg4.eq_unread hf3
  sl_exec (disch := first | sl_exact hc0 | sl_exact hc1)
  sl_step
  iapply Hk
  isplitl [H0]; · iexists _; isplitr; · ipureintro; exact harg1.read_unread _
                  iexact H0
  isplitl [H1]; · iexists _; isplitr; · ipureintro; exact harg2.read_unread _
                  iexact H1
  isplitl [H2]
  · iexists _; isplitr; swap; · iexact H2
    ipureintro
    rw [read_store]
    sl_unfold_words
    unfold bestScore bestRow
    simp only [View.readAt_eq_ld, harg1.read_unread, harg2.read_unread, harg3.read_unread, harg4.read_unread,
      View.ld_unit_zero (S := S2048x9) zeros, View.ld_unit_zero (S := S2048x1) zeros]
    rfl
  iexists _; isplitr; swap; · iexact H3
  ipureintro
  rw [read_store]
  sl_unfold_words
  unfold bestScore
  simp only [View.readAt_eq_ld, harg1.read_unread, harg2.read_unread, harg3.read_unread, harg4.read_unread,
    View.ld_unit_zero (S := S2048x9) zeros, View.ld_unit_zero (S := S2048x1) zeros]
  rfl

end Cert.Proof.Whole

end
-- ==== Proof.ScanRegion.lean ====
/-
  The grid call as a region of the program: after point `t` the kernel's scratch holds the greatest score over the
  first `t + 1` blocks and the result's buffer the row that has it; the result array ends at what the last point left.
-/
module

public import proofs.«01_k».proof.Proof.ScanBody
public import Idealize.ShloMosaic.Lib.Pipeline.Regions

@[expose] public section

set_option maxRecDepth 16384

noncomputable section

namespace Cert.Proof.Whole

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

variable (A : (c : Dev nD) → (b : Ref sig .tc) → Buf (Elt F) ((c : Thread nD τ).loc b))

/-- Window `w`'s block at point `t`, read off its array. -/
def blk (c : Dev nD) (w : Fin cfg0.W) (t : Fin cfg0.N) : ((cfg0.win w).xblock (cfg0.grid.coords t)).Idx → Elt F (cfg0.win w).elt :=
  ((cfg0.win w).blk t).view.read (Elt F) (A c (Pipeline.arrRef spec0 w))

/-- The score and the row held after point `n`. -/
def best (c : Dev nD) : (n : ℕ) → n < cfg0.N → Vec F S2048x1 .f32 × Vec F S2048x1 .i32
  | 0, h => (bestScore (blk A c 0 ⟨0, h⟩) (blk A c 1 ⟨0, h⟩), bestRow (grid0.coords ⟨0, h⟩) (blk A c 0 ⟨0, h⟩) (blk A c 1 ⟨0, h⟩))
  | n + 1, h =>
    (k0_pay3 (bestScore (blk A c 0 ⟨n + 1, h⟩) (blk A c 1 ⟨n + 1, h⟩)) (best c n (Nat.lt_of_succ_lt h)).1 (best c n (Nat.lt_of_succ_lt h)).1,
      k0_pay4 (bestScore (blk A c 0 ⟨n + 1, h⟩) (blk A c 1 ⟨n + 1, h⟩)) (bestRow (grid0.coords ⟨n + 1, h⟩) (blk A c 0 ⟨n + 1, h⟩) (blk A c 1 ⟨n + 1, h⟩))
        (best c n (Nat.lt_of_succ_lt h)).1 (best c n (Nat.lt_of_succ_lt h)).2)

theorem best_zero (c : Dev nD) (t : Fin cfg0.N) (h : t.val = 0) : best A c t.val t.isLt
    = (bestScore (blk A c 0 t) (blk A c 1 t), bestRow (grid0.coords t) (blk A c 0 t) (blk A c 1 t)) := by
  obtain ⟨n, hn⟩ := t
  obtain rfl : n = 0 := h
  rfl

theorem best_pos (c : Dev nD) (t : Fin cfg0.N) (h : t.val ≠ 0) : best A c t.val t.isLt
    = (k0_pay3 (bestScore (blk A c 0 t) (blk A c 1 t)) (best A c (t.val - 1) (by omega)).1 (best A c (t.val - 1) (by omega)).1,
      k0_pay4 (bestScore (blk A c 0 t) (blk A c 1 t)) (bestRow (grid0.coords t) (blk A c 0 t) (blk A c 1 t))
        (best A c (t.val - 1) (by omega)).1 (best A c (t.val - 1) (by omega)).2) := by
  obtain ⟨n, hn⟩ := t
  cases n with
  | zero => exact absurd rfl h
  | succ n => rfl

/-! ## The staging buffers at a point -/

abbrev s0 (t : Fin cfg0.N) : Memref sig .tc .vmem S2048x9 .f32 := win0_0.stage (cfg0.slots t 0)
abbrev s1 (t : Fin cfg0.N) : Memref sig .tc .vmem S4096x9 .f32 := win0_1.stage (cfg0.slots t 1)
abbrev s2 (t : Fin cfg0.N) : Memref sig .tc .vmem S2048x1 .i32 := win0_2.stage (cfg0.slots t 2)
abbrev scr : Memref sig .tc .vmem S2048x1 .f32 := Memref.whole cc0_scratch0

theorem busy2 : ∀ t : Fin cfg0.N, cfg0.idle 2 (grid0.coords t) = false := by decide +kernel

/-- Whether the result's buffer holds nothing of the body's yet: before the first point only. -/
def freshAt : ℕ → Bool
  | 0 => true
  | n + 1 => n == 15
theorem freshAt_step : ∀ t : Fin cfg0.N,
    freshAt (t.val + 1) = ((cfg0.win 2).flush t || (cfg0.idle 2 (cfg0.grid.coords t) && freshAt t.val)) := by decide +kernel
theorem fresh_eq (t : Fin cfg0.N) : cfg0.fresh 2 t.val = freshAt t.val :=
  Pipeline.Cfg.fresh_tab cfg0 2 freshAt rfl freshAt_step t.val (Nat.le_of_lt t.isLt)
theorem not_fresh : ∀ t : Fin cfg0.N, t.val ≠ 0 → cfg0.fresh 2 t.val = false := by
  intro t; rw [fresh_eq t]; revert t; decide +kernel

/-! ## The proof data -/

/-- The kernel's scratch before position `n`. -/
def scratchAt (c : Dev nD) : (n : ℕ) → n ≤ cfg0.N → sProp 𝕄
  | 0, _ => iprop(∃ d, owns (c : Thread nD τ) scr fullShare d)
  | n + 1, h => owns (c : Thread nD τ) scr fullShare (best A c n h).1

theorem scratchAt_zero (c : Dev nD) (n : ℕ) (h : n ≤ cfg0.N) (hz : n = 0) :
    scratchAt A c n h = iprop(∃ d, owns (c : Thread nD τ) scr fullShare d) := by subst hz; rfl
theorem scratchAt_succ (c : Dev nD) (n : ℕ) (h : n < cfg0.N) :
    scratchAt A c (n + 1) h = owns (c : Thread nD τ) scr fullShare (best A c n h).1 := rfl
theorem scratchAt_pos (c : Dev nD) (n : ℕ) (h : n ≤ cfg0.N) (hz : n ≠ 0) :
    scratchAt A c n h = owns (c : Thread nD τ) scr fullShare (best A c (n - 1) (by omega)).1 := by
  cases n with
  | zero => exact absurd rfl hz
  | succ n => rfl

def dat (c : Dev nD) : Dat τ (Elt F) (HIx 1) ℕ UU ℕ cfg0 c where
  A w := A c (Pipeline.arrRef spec0 w)
  after w t := match w with
    | ⟨0, _⟩ => blk A c 0 t
    | ⟨1, _⟩ => blk A c 1 t
    | ⟨2, _⟩ => (best A c t.val t.isLt).2
  Φ t := scratchAt A c t.val (Nat.le_of_lt_succ t.isLt)
  q _ := fullShare
  owed _ := (K (F := F)).Otc c 0
  recorded _ := {p | (K (F := F)).lev (SparseCore.T c, p.1) p.2 ≤ 0}

theorem dat_A (c : Dev nD) (w : Fin cfg0.W) : (dat A c).A w = A c (Pipeline.arrRef spec0 w) := by dsimp only [dat]
theorem dat_Φ (c : Dev nD) (t : Fin cfg0.N) : (dat A c).Φ t.castSucc = scratchAt A c t.val (Nat.le_of_lt t.isLt) := by
  dsimp only [dat]; exact Pipeline.Dat.Φ_castSucc (scratchAt A c) t
theorem after_0 (c : Dev nD) (t : Fin cfg0.N) : (dat A c).after 0 t = blk A c 0 t := by dsimp only [dat]
theorem after_1 (c : Dev nD) (t : Fin cfg0.N) : (dat A c).after 1 t = blk A c 1 t := by dsimp only [dat]
theorem after_2 (c : Dev nD) (t : Fin cfg0.N) : (dat A c).after 2 t = (best A c t.val t.isLt).2 := by dsimp only [dat]

theorem before_0 (c : Dev nD) (t : Fin cfg0.N) (d) : (dat A c).before 0 t d = blk A c 0 t :=
  ((dat A c).before_in_eq_fetched 0 rfl (fun _ => rfl) (fun _ _ _ => rfl) (fun t => by rw [after_0]; unfold Dat.blockOf blk; rw [dat_A]; try rfl) t d).trans
    (by unfold Dat.fetched Dat.blockOf blk; rw [dat_A]; try rfl)
theorem before_1 (c : Dev nD) (t : Fin cfg0.N) (d) : (dat A c).before 1 t d = blk A c 1 t :=
  ((dat A c).before_in_eq_fetched 1 rfl (fun _ => rfl) (fun _ _ _ => rfl) (fun t => by rw [after_1]; unfold Dat.blockOf blk; rw [dat_A]; try rfl) t d).trans
    (by unfold Dat.fetched Dat.blockOf blk; rw [dat_A]; try rfl)

theorem carried (c : Dev nD) : ∀ (t : Fin cfg0.N) (_ : t.val ≠ 0), cfg0.idle 2 (grid0.coords t) = true → cfg0.fresh 2 t.val = false →
    (dat A c).after 2 t = (dat A c).after 2 ⟨t.val - 1, by omega⟩ := by
  intro t _ hi _
  rw [busy2 t] at hi
  exact absurd hi Bool.false_ne_true

theorem before_2 (c : Dev nD) (t : Fin cfg0.N) (h : t.val ≠ 0) (d) : (dat A c).before 2 t d = (best A c (t.val - 1) (by omega)).2 := by
  rw [Dat.before_out_traj _ 2 rfl (fun _ _ => rfl) (carried A c) t.val t rfl d, if_neg (by rw [not_fresh t h]; exact Bool.false_ne_true)]
  dsimp only [dat]

/-! ## The body at a point -/

def bodyPre (c : Dev nD) (t : Fin cfg0.N) : sProp 𝕄 :=
  iprop((dat A c).Φ t.castSucc ∗ (dat A c).owesAt none t.castSucc
    ∗ (∃ d, owns (c : Thread nD τ) (s0 t) fullShare ((dat A c).before 0 t d))
    ∗ (∃ d, owns (c : Thread nD τ) (s1 t) fullShare ((dat A c).before 1 t d))
    ∗ (∃ d, owns (c : Thread nD τ) (s2 t) fullShare ((dat A c).before 2 t d)))

def bodyPost (c : Dev nD) (t : Fin cfg0.N) : sProp 𝕄 :=
  iprop((dat A c).Φ t.succ ∗ (dat A c).owesAt none t.succ
    ∗ (dat A c).leavesExact 0 t ∗ (dat A c).leavesExact 1 t ∗ (dat A c).leavesExact 2 t)

set_option maxHeartbeats 3200000 in
theorem body_at (c : Dev nD) (t : Fin cfg0.N) :
    bodyPre A c t ⊢ wp frame (wpE (defs₀ (F := F)) Variants.none c none) Set.univ (bodyAt0 t) (fun _ => bodyPost A c t) := by
  unfold bodyPre bodyPost bodyAt0
  simp only [before_0, before_1]
  rw [show (dat A c).owesAt none t.succ = (dat A c).owesAt none t.castSucc from rfl]
  rw [show (dat A c).Φ t.succ = scratchAt A c (t.val + 1) t.isLt from rfl, scratchAt_succ, dat_Φ]
  rw [show (dat A c).leavesExact 0 t = owns (c : Thread nD τ) (s0 t) fullShare ((dat A c).after 0 t) from by
    unfold Dat.leavesExact; rw [show cfg0.idle 0 (grid0.coords t) = false from rfl], after_0]
  rw [show (dat A c).leavesExact 1 t = owns (c : Thread nD τ) (s1 t) fullShare ((dat A c).after 1 t) from by
    unfold Dat.leavesExact; rw [show cfg0.idle 1 (grid0.coords t) = false from rfl], after_1]
  rw [show (dat A c).leavesExact 2 t = owns (c : Thread nD τ) (s2 t) fullShare ((dat A c).after 2 t) from by
    unfold Dat.leavesExact; rw [busy2 t], after_2]
  by_cases hz : t.val = 0
  · rw [scratchAt_zero A c _ _ hz, best_zero A c t hz]
    dsimp only
    iintro ⟨HS, Ho, ⟨%d0, H0⟩, ⟨%d1, H1⟩, ⟨%d2, H2⟩⟩
    iapply (body_first c (grid0.coords t) _ _ _ _ _ _ _ _ (blk A c 0 t) (blk A c 1 t) ((first_iff t).mpr hz) (fun h => (later_iff t).mp h hz) Set.univ _)
    isplitl [H0]; · iexact H0
    isplitl [H1]; · iexact H1
    isplitl [H2]; · iexists _; iexact H2
    isplitl [HS]; · iexact HS
    iintro ⟨H0, H1, H2, HS⟩
    isplitl [HS]; · iexact HS
    isplitl [Ho]; · iexact Ho
    isplitl [H0]; · iexact H0
    isplitl [H1]; · iexact H1
    iexact H2
  · rw [scratchAt_pos A c _ _ hz, best_pos A c t hz]
    simp only [before_2 A c t hz]
    iintro ⟨HS, Ho, ⟨%d0, H0⟩, ⟨%d1, H1⟩, ⟨%d2, H2⟩⟩
    iapply (body_later c (grid0.coords t) _ _ _ _ _ _ _ _ (blk A c 0 t) (blk A c 1 t) (fun h => hz ((first_iff t).mp h)) ((later_iff t).mpr hz) _ _ Set.univ _)
    isplitl [H0]; · iexact H0
    isplitl [H1]; · iexact H1
    isplitl [H2]; · iexact H2
    isplitl [HS]; · iexact HS
    iintro ⟨H0, H1, H2, HS⟩
    isplitl [HS]; · iexact HS
    isplitl [Ho]; · iexact Ho
    isplitl [H0]; · iexact H0
    isplitl [H1]; · iexact H1
    iexact H2

theorem row_eq (t : Fin cfg0.N) : defs₀ (F := F) .tc cfg0.body (cfg0.bodyArgs t (cfg0.slots t)) = bodyAt0 t := by
  rfl

theorem body_all (c : Dev nD) : Pipeline.BodyObligation (dat (F := F) A c) (defs₀ (F := F)) Variants.none none Set.univ := fun t => by
  rw [bigSep_W0, bigSep_W0, row_eq]
  exact triple_restated (body_at A c t) rfl .rfl fun _ => .rfl

end Cert.Proof.Whole

end
-- ==== Proof.ScanSeg.lean ====
/-
  The grid call as one step of the program: from the two padded operands and the result array it leaves the operands
  as they were and the result array at the rows held after the last point.
-/
module

public import proofs.«01_k».proof.Proof.ScanRegion
public import Idealize.ShloMosaic.Lib.Pipeline.RegionArrays
public import Idealize.ShloMosaic.Lib.Pipeline.ValueKit.Geometry
public import Idealize.ShloMosaic.Lib.Pipeline.Kit

@[expose] public section

set_option maxRecDepth 16384

noncomputable section

namespace Cert.Proof.Whole

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

variable (A : (c : Dev nD) → (b : Ref sig .tc) → Buf (Elt F) ((c : Thread nD τ).loc b))

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩, c => dat A c

theorem last_lt : 15 < cfg0.N := by decide
theorem last_flush : ∀ t : Fin cfg0.N, (cfg0.win 2).flush t = true → t.val = 15 := by decide +kernel

/-- The rows the grid call leaves. -/
def found (c : Dev nD) : Vec F S2048x1 .i32 := (best A c 15 last_lt).2

/-- The pipeline's rounds among the certificate's. -/
abbrev EP : Emb UP 𝕄 := (Emb.inl : Emb UP (UP × Counters)).trans embR

/-! ## The result array after the last point -/

theorem arrAt_found (c : Dev nD) : (dat A c).arrAt 2 cfg0.N = found A c := by
  refine (dat A c).arrAt_eq_of_covers 2 (found A c) (by decide +kernel) fun t hf y => ?_
  have hb : ∀ (n : ℕ) (h : n < cfg0.N), n = 15 → best A c n h = best A c 15 last_lt := by
    intro n h e; subst e; rfl
  rw [after_2, hb t.val t.isLt (last_flush t hf)]
  blk_simp
  refine congrArg (best A c 15 last_lt).2 (funext fun a => Fin.ext ?_)
  refine (win0_2.rect_emb_val_of_index_zero t a ?_ y).symm
  match a with
  | ⟨0, _⟩ => rfl
  | ⟨1, _⟩ => rfl

/-! ## The step -/

theorem arrays_at (c : Dev nD) (V) : (dat A c).arrays V
    = iprop((((c : Thread nD τ).loc main_v2) ↦{fullShare} V 0) ∗ (((c : Thread nD τ).loc main_v4) ↦{fullShare} V 1)
      ∗ (((c : Thread nD τ).loc main_v5) ↦{fullShare} V 2)) := by
  refine (Pipeline.arrays_eq (Pipeline.pin (pcfgs (F := F)) adm) (pdats A) 0 c arr_whole0 (fun w => (dat A c).share_full (fun _ => rfl) w) V).trans ?_
  rw [bigSep_W0]

theorem otc_none (c : Dev nD) (g : GSem nD τ sig) : (K (F := F)).Otc c 0 g none = 0 := by
  by_contra h
  have := SparseCore.Cfg.lev_of_Otc_pos (K := K (F := F)) (Nat.pos_of_ne_zero h)
  rw [SparseCore.Cfg.lev_none] at this
  omega

/-- What the step starts from and ends at. -/
def stPre (c : Dev nD) : sProp 𝕄 :=
  iprop((((c : Thread nD τ).loc main_v2) ↦{fullShare} A c main_v2) ∗ (((c : Thread nD τ).loc main_v4) ↦{fullShare} A c main_v4)
    ∗ (((c : Thread nD τ).loc main_v5) ↦{fullShare} A c main_v5)
    ∗ ∃ W, ⌜(K (F := F)).WBelow (SparseCore.T c) W 0⌝ ∗ owes (SparseCore.T c) ((K (F := F)).Otc c 0) W)
def stPost (c : Dev nD) : sProp 𝕄 :=
  iprop((((c : Thread nD τ).loc main_v2) ↦{fullShare} A c main_v2) ∗ (((c : Thread nD τ).loc main_v4) ↦{fullShare} A c main_v4)
    ∗ (((c : Thread nD τ).loc main_v5) ↦{fullShare} found A c)
    ∗ ∃ W, ⌜(K (F := F)).WBelow (SparseCore.T c) W 0⌝ ∗ owes (SparseCore.T c) ((K (F := F)).Otc c 0) W)

theorem owes_in (c : Dev nD) (t : Fin (cfg0.N + 1)) :
    iprop(∃ W, ⌜(K (F := F)).WBelow (SparseCore.T c) W 0⌝ ∗ owes (SparseCore.T c) ((K (F := F)).Otc c 0) W) ⊢ ((dat A c).owesAt none t : sProp 𝕄) := by
  unfold Dat.owesAt Pipeline.owesWithin Dat.bound
  iintro ⟨%W, %hW, HO⟩; iexists W; isplitr; · ipureintro; exact fun p hp => Or.inl (hW p hp)
  iexact HO

theorem owes_out (c : Dev nD) (t : Fin (cfg0.N + 1)) :
    ((dat A c).owesAt none t : sProp 𝕄) ⊢ iprop(∃ W, ⌜(K (F := F)).WBelow (SparseCore.T c) W 0⌝ ∗ owes (SparseCore.T c) ((K (F := F)).Otc c 0) W) := by
  unfold Dat.owesAt Pipeline.owesWithin Dat.bound
  iintro ⟨%W, %hW, HO⟩; iexists W; isplitr
  · ipureintro
    intro p hp
    rcases hW hp with h | ⟨w, s, rfl⟩
    · exact h
    · exact le_of_eq (SparseCore.Cfg.lev_none ..)
  iexact HO

theorem scratch_last (c : Dev nD) : (dat A c).Φ (Fin.last cfg0.N) = owns (c : Thread nD τ) scr fullShare (best A c 15 last_lt).1 := rfl

def seg : Pipeline.RegionSeg (pcfgs (F := F)) adm (pdats A) none (defs₀ (F := F)) 𝒱₀ (K (F := F)).L (K (F := F)).lev 0 where
  win := launch0.win.to₀
  block_pos := block_pos0
  stage_whole := stage_whole0
  K := PEmpty
  osem k := k.elim
  ho := Pipeline.OwnSemFacts.none _
  hbody c := (body_all A c).loose
  hwaits c := Pipeline.cellsWaits_intro (Pipeline.pin (pcfgs (F := F)) adm) (pdats A) none 0 c fun w s t =>
    (K (F := F)).mayWait_none _ (otc_none c)
  pre := stPre A
  post := stPost A
  X _ := BI.emp
  Y _ := BI.emp
  Z _ := BI.emp
  hentry c := by
    rw [Pipeline.ownSems0_none, Pipeline.prefHeld_of_none _ rfl]
    show _ ⊢ |={Set.univ}=> iprop((dat A c).arrays ((dat A c).arrAt · 0) ∗ _ ∗ (dat A c).owesAt none 0 ∗ _ ∗ _)
    rw [arrays_at]
    unfold stPre
    iintro ⟨⟨H2, H4, H5, HO⟩, -, -⟩
    imodintro
    isplitl [H2 H4 H5]
    · isplitl [H2]; · iexact H2
      isplitl [H4]; · iexact H4
      iexact H5
    isplitr; · iempintro
    isplitl [HO]; · iapply (owes_in A c 0); iexact HO
    isplitr; · iempintro
    iempintro
  hin c := by
    rw [Pipeline.prefHeld_of_none _ rfl]
    show iprop(_ ∗ _ ∗ Pipeline.scopedRest spec0 c) ⊢ scratchAt A c 0 (Nat.zero_le _)
    rw [scopedRest0_eq, scratchAt_zero A c 0 _ rfl]
    iintro ⟨-, -, ⟨%f, H⟩⟩
    iexists f
    rw [owns_whole]; iexact H
  hout c := by
    rw [Pipeline.ownSems0_none]
    show (dat A c).Φ (Fin.last cfg0.N) ⊢ iprop(_ ∗ _ ∗ Pipeline.scopedRest spec0 c)
    rw [scopedRest0_eq, scratch_last, owns_whole]
    iintro H
    isplitr; · iempintro
    isplitr; · iempintro
    iexists _; iexact H
  hexit c := by
    show iprop((dat A c).arrays ((dat A c).arrAt · cfg0.N) ∗ (dat A c).owesAt none (Fin.last cfg0.N) ∗ _ ∗ _) ⊢ _
    rw [arrays_at, arrAt_found, Dat.arrAt_in _ 0 rfl, Dat.arrAt_in _ 1 rfl]
    unfold stPost
    iintro ⟨⟨H2, H4, H5⟩, HO, -, -⟩
    imodintro
    isplitl [H2]; · iexact H2
    isplitl [H4]; · iexact H4
    isplitl [H5]; · iexact H5
    iapply (owes_out A c _); iexact HO

theorem step (c : Dev nD) {α : Type} (k : PUnit → Prog (TpuEff nD τ sig (Elt F) ΛP .tc) α) (Q : α → sProp 𝕄) :
    iprop((iprop(boundary (c.tc : Thread nD τ) ∗ stPost A c) -∗ wp frame (wpE (D (F := F)) 𝒱₀.lift (c.tc : Thread nD τ) none) Set.univ (k ⟨⟩) Q)
        ∗ boundary (c.tc : Thread nD τ) ∗ stPre A c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱₀.lift (c.tc : Thread nD τ) none) Set.univ (.op (.customCall (Pipeline.entry 0) ()) k) Q :=
  (Pipeline.RegionSeg.wp (pcfgs (F := F)) adm (pdats A) none cellOf_inj EP (defs₀ (F := F)) 𝒱₀ (K (F := F)).L (K (F := F)).lev (seg A) c none
    (fun _ h => nomatch h) k Q)

end Cert.Proof.Whole

end
-- ==== Proof.ScBody.lean ====
/-
  The whole of one SparseCore task: what it holds at the start, and the same with its block of the result written.
-/
module

public import proofs.«01_k».proof.Proof.ScTile

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.KernelIdeal.main_v6_scv : Memref Cert.KernelIdeal.sig Kind.scVector Space.hbm Cert.KernelIdeal.S2048 EltTy.i32)
local notation "tV" => (Memref.whole Cert.KernelIdeal.main_v7_scv : Memref Cert.KernelIdeal.sig Kind.scVector Space.hbm Cert.KernelIdeal.S4096x128 EltTy.f32)
local notation "oV" => (Memref.whole Cert.KernelIdeal.main_v8_scv : Memref Cert.KernelIdeal.sig Kind.scVector Space.hbm Cert.KernelIdeal.S16384 EltTy.f32)
local notation "aV" => (Memref.whole Cert.KernelIdeal.cc1_scratch0 : Memref Cert.KernelIdeal.sig Kind.scVector Space.vmem Cert.KernelIdeal.S64 EltTy.i32)
local notation "rV" => (Memref.whole Cert.KernelIdeal.cc1_scratch1 : Memref Cert.KernelIdeal.sig Kind.scVector Space.vmem Cert.KernelIdeal.S64 EltTy.i32)
local notation "gV" => (Memref.whole Cert.KernelIdeal.cc1_scratch2 : Memref Cert.KernelIdeal.sig Kind.scVector Space.vmem Cert.KernelIdeal.S64x128 EltTy.f32)
local notation "uV" => (Memref.whole Cert.KernelIdeal.cc1_scratch3 : Memref Cert.KernelIdeal.sig Kind.scVector Space.vmem Cert.KernelIdeal.S512 EltTy.f32)

section Tile

variable (ix : (d : Dev nD) → Buf (Elt F) (iLoc d)) (tb : (d : Dev nD) → Buf (Elt F) (tLoc d))
variable (d : Dev nD) (L : grid1.Coords)

set_option maxHeartbeats 4000000 in
theorem tile_body (hF : (K (F := F)).Facts) (hpre : InRows ix) (O : CellTallies nD τ sig (HIx 1)) (W : Waits sig (HIx 1)) (hO : ∀ g, O g none = 0) :
    iprop(levAts (K (F := F)).L (K (F := F)).lev ∗ emp
        ∗ (iPts ix d (shq (wid L)) ∗ tPts tb d (shq (wid L)) ∗ ∃ f, oRowPts d (wid L) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather L tV (Memref.isWhole_whole _) iV (Memref.isWhole_whole _) oV (Memref.isWhole_whole _)
            aV (Memref.isWhole_whole _) rV (Memref.isWhole_whole _) gV (Memref.isWhole_whole _) uV (Memref.isWhole_whole _)
            cc1_scratch4 cc1_scoped0 cc1_scoped1)
          fun _ => iprop((iPts ix d (shq (wid L)) ∗ tPts tb d (shq (wid L)) ∗ oRowPts d (wid L) (OUT ix tb d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_gather_eq_skeleton]; unfold cc1_gather_skel
  simp only [k1_part1_eq_skeleton]; unfold k1_part1_skel
  rw [(K (F := F)).scopedBufs_V hF d (cV L) (jV L), SparseCore.Cfg.scopedSems0_V (Val := Elt F) d (cV L) (jV L), ownSems0_V, ownBufs_V]
  iintro ⟨#Hlv, -, ⟨Hi, Ht, ⟨%fo, Ho⟩⟩, ⟨⟨%fa, Ha⟩, ⟨%fr, Hr⟩, ⟨%fg, Hg⟩, ⟨%fu, Hu⟩, Hbufs⟩, ⟨HsemG, HsemA, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Ho' := (Entails.of_eq (pts_oRowK (F := F) d L _).symm) $$ Ho
  ihave Ht' := (Entails.of_eq (pts_tV (F := F) d L _ _).symm) $$ Ht
  ihave Ha' := (Entails.of_eq (pts_aV (F := F) d L _).symm) $$ Ha
  ihave Hr' := (Entails.of_eq (pts_rV (F := F) d L _).symm) $$ Hr
  ihave Hg' := (Entails.of_eq (pts_gV (F := F) d L _).symm) $$ Hg
  ihave Hu' := (Entails.of_eq (pts_uV (F := F) d L _).symm) $$ Hu
  sl_exec
  have ha : View.write (Elt F) (aV).view fa (tile_body.sl.dma0 ix d L) Finset.univ = aC ix d L := by
    rw [View.write_whole_univ]; exact fetched ix d L
  have hr : (rV).view.writes (Elt F) (rV).view.junk (tile_body.sl.Hr'_4 ix d L fa) = rC ix d L := by
    funext y
    refine (congrFun (View.read_whole _ _) y).symm.trans (View.read_writes_apply_of_pieces (Val := Elt F) (rV).view _ (rC ix d L) _ ?_ y ?_)
    · delta tile_body.sl.Hr'_4
      rw [ha]
      simp only [List.forall_mem_cons, List.not_mem_nil, false_imp_iff, implies_true, _root_.and_true]
      refine ⟨fun x => ?_, fun x => ?_, fun x => ?_, fun x => ?_⟩ <;> rfl
    · revert y; exact View.cover_of_tiled _ ![16] (by sl_kernel_rfl)
  rw [ha, hr]
  ihave Hts := (pointsTo_split_subset (q := shq (wid L)) (f := tb d) (S := Finset.univ) (Finset.subset_univ (tAllK).view.set)).1 $$ Ht'
  icases Hts with ⟨Hts, Htr⟩
  have hgs : (gV).view.set = Finset.univ := View.set_whole _
  have hrs : (rV).view.set = Finset.univ := View.set_whole _
  ihave Hg2 := (Entails.of_eq (show ((gV).view.loc (V d (cV L) (jV L)) ↦{fullShare} fg : sProp 𝕄)
      = (gV).view.loc (V d (cV L) (jV L)) ↦[(gV).view.set]{fullShare} fg by rw [hgs])) $$ Hg'
  ihave Hr2 := (Entails.of_eq (show ((rV).view.loc (V d (cV L) (jV L)) ↦{fullShare} rC ix d L : sProp 𝕄)
      = (rV).view.loc (V d (cV L) (jV L)) ↦[(rV).view.set]{fullShare} rC ix d L by rw [hrs])) $$ Hr'
  have hN : ∀ h : S4096x128.Gathers 0 S64x128, ∑ j, ((gV).slice (S64x128.rowRect h.axis' j) (S64x128.stride_rowRect h.axis' j)).view.dmaCredit
      = (gV).view.dmaCredit := by decide
  have hin : ∀ x, ((rV).view.read (Elt F) (rC ix d L) x).toNat < S4096x128.size gathers_S4096x128_S64x128.axis := by
    intro x
    show (rC ix d L x).toNat < 4096
    rw [rC_toNat ix d L hpre]
    have := aC_lt ix d L hpre x
    omega
  iapply (SparseCore.wp_indirectGatherLocal countersEmb 𝒱₀ (V d (cV L) (jV L)) none (hg := gathers_S4096x128_S64x128) (default : HIx 1)
      (gV).view.dmaCredit (hN _) (by decide) hin) $$ [Hts Hg2 Hr2 HsemG]
  · isplitl [Hts]; · iexact Hts
    isplitl [Hg2]; · iexact Hg2
    isplitl [Hr2]; · iexact Hr2
    iexact HsemG
  iintro Hfl
  sl_exec
  iapply (Transfers.wp_waitLocalO countersEmb 𝒱₀ (V d (cV L) (jV L)) none (default : HIx 1) (rfl : (gV).view.dmaCredit = _)) $$ [Hfl HO]
  · isplitl [Hfl]; · iexact Hfl
    isplitl [HO]; · iexact HO
    iapply (Transfers.MayWaits.elim (SemLoc.dma cc1_scratch4.sem)) $$ Hmw
  iintro ⟨⟨Hg', Hts, Hr'⟩, HsemG, HO⟩
  ihave Ht' := (pointsTo_split_subset (q := shq (wid L)) (f := tb d) (S := Finset.univ) (Finset.subset_univ (tAllK).view.set)).2 $$ [Hts Htr]; · isplitl [Hts] <;> iassumption
  rw [hgs, hrs, View.write_whole_univ]
  have hgat := gathered ix tb d L hpre k1_part1_skel._proof_19 hin
  rw [show SparseCore.gatherPayload gathers_S4096x128_S64x128 (View.read (Elt F) tAllK.view (tb d))
      (SparseCore.rows (View.read (Elt F) (rV).view (rC ix d L)) k1_part1_skel._proof_19 hin) = gC ix tb d L from hgat]
  sl_exec
  rw [Prog.bind_assoc]
  sl_for (inv ix tb d L) $$ [Ha' Hg' Hu']
  case region => intro k _; exact trip ix tb d L k
  · unfold inv
    isplitl [Ha']; · iexact Ha'
    isplitl [Hg']; · iexact Hg'
    iexists fu
    isplitr [Hu']; swap; · iexact Hu'
    ipureintro
    intro x hx; omega
  iintro %_ HI
  unfold inv
  icases HI with ⟨Ha', Hg', ⟨%f, %hf, Hu'⟩⟩
  sl_exec
  sl_step
  have hout : ∀ j ∈ (oRowK L).view.set, (oRowK L).view.writes (Elt F) fo [⟨Rect.whole S512, tile_body.sl.dma0_1 f⟩] j = OUT ix tb d j := by
    intro j hj
    obtain ⟨x, -, rfl⟩ := Finset.mem_map.mp hj
    have hx : (x 0).val < 512 := (x 0).isLt
    have h1 : (oRowK L).view.read (Elt F) ((oRowK L).view.writes (Elt F) fo [⟨Rect.whole S512, tile_body.sl.dma0_1 f⟩]) x = f x :=
      View.read_writes_cons_hit_of_coords (Val := Elt F) (oRowK L).view fo (Rect.whole S512) (tile_body.sl.dma0_1 f) [] x x
        (fun a => by show (x a).val = 0 + 1 * (x a).val; omega)
    rw [View.read_apply, cast_eq] at h1
    refine h1.trans ((hf x hx).trans ?_)
    have hn (n n' : ℕ) (h : n < 16384) (h' : n' < 16384) (e : n = n') : pick (α := F .f32) (ix d) (tb d) n h = pick (ix d) (tb d) n' h' := by subst e; rfl
    refine hn _ _ _ _ ?_
    show 512 * (2 * (L 1).val + (L 0).val) + (x 0).val = k1_off3 L 0 + 1 * (x 0).val
    rw [congrFun (k1_off3_eq L) 0]
    show _ = 1024 * (L 1).val + 512 * (L 0).val + 1 * (x 0).val
    omega
  ihave Ho2 := (Entails.of_eq (pointsTo_congr hout)) $$ Ho'
  isplitl [Hi' Ht' Ho2]
  · isplitl [Hi']; · iapply (Entails.of_eq (pts_iV (F := F) d L _ _)); iexact Hi'
    isplitl [Ht']; · iexact Ht'
    iapply (Entails.of_eq (pts_oRowK (F := F) d L _)); iexact Ho2
  isplitl [Ha' Hr' Hg' Hu' Hbufs]
  · isplitl [Ha']; · iexists _; iexact Ha'
    isplitl [Hr']; · iexists _; iexact Hr'
    isplitl [Hg']; · iexists _; iexact Hg'
    isplitl [Hu']; · iexists _; iexact Hu'
    iexact Hbufs
  isplitl [HsemG HsemA HsemO Hsems]
  · isplitl [HsemG]; · iexact HsemG
    isplitl [HsemA]; · iexact HsemA
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Whole

end
-- ==== Proof.ScSplit.lean ====
/-
  How the SparseCore call's work is dealt: the index list and the table go to the 32 tasks as read shares, the result in
  32 blocks of 512, and all of it comes back with the result written.
-/
module

public import proofs.«01_k».proof.Proof.ScBody

@[expose] public section

noncomputable section

namespace Cert.Proof.Whole

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.KernelIdeal.main_v6_scv : Memref Cert.KernelIdeal.sig Kind.scVector Space.hbm Cert.KernelIdeal.S2048 EltTy.i32)
local notation "tV" => (Memref.whole Cert.KernelIdeal.main_v7_scv : Memref Cert.KernelIdeal.sig Kind.scVector Space.hbm Cert.KernelIdeal.S4096x128 EltTy.f32)
local notation "oV" => (Memref.whole Cert.KernelIdeal.main_v8_scv : Memref Cert.KernelIdeal.sig Kind.scVector Space.hbm Cert.KernelIdeal.S16384 EltTy.f32)
local notation "aV" => (Memref.whole Cert.KernelIdeal.cc1_scratch0 : Memref Cert.KernelIdeal.sig Kind.scVector Space.vmem Cert.KernelIdeal.S64 EltTy.i32)
local notation "rV" => (Memref.whole Cert.KernelIdeal.cc1_scratch1 : Memref Cert.KernelIdeal.sig Kind.scVector Space.vmem Cert.KernelIdeal.S64 EltTy.i32)
local notation "gV" => (Memref.whole Cert.KernelIdeal.cc1_scratch2 : Memref Cert.KernelIdeal.sig Kind.scVector Space.vmem Cert.KernelIdeal.S64x128 EltTy.f32)
local notation "uV" => (Memref.whole Cert.KernelIdeal.cc1_scratch3 : Memref Cert.KernelIdeal.sig Kind.scVector Space.vmem Cert.KernelIdeal.S512 EltTy.f32)

section Split

variable (ix : (d : Dev nD) → Buf (Elt F) (iLoc d)) (tb : (d : Dev nD) → Buf (Elt F) (tLoc d))

/-- Task number of subcore `i` of SparseCore `c`. -/
abbrev wOf (c : Fin 2) (i : Fin 16) : Fin 32 := ⟨2 * i.val + c.val, by have := c.isLt; have := i.isLt; omega⟩

/-- What task `w` takes, and what it brings back. -/
abbrev takes (d : Dev nD) (w : Fin 32) : sProp 𝕄 := iprop(iPts ix d (shq w) ∗ tPts tb d (shq w) ∗ ∃ f, oRowPts d w f)
abbrev brings (d : Dev nD) (w : Fin 32) : sProp 𝕄 := iprop(iPts ix d (shq w) ∗ tPts tb d (shq w) ∗ oRowPts d w (OUT ix tb d))

/-- Each SparseCore takes what its sixteen tasks take, and brings back what they bring. -/
def P : (K (F := F)).Pay (nD := nD) (Val := Elt F) (Name := ℕ) (U := UU) where
  st := fun q d c => match q with | 0 => bigSep Finset.univ fun i : Fin 16 => takes ix tb d (wOf (Fin.cast nCore_zero c) i)
  dn := fun q d c => match q with | 0 => bigSep Finset.univ fun i : Fin 16 => brings ix tb d (wOf (Fin.cast nCore_zero c) i)
  go := fun q d c i => match q with | 0 => takes ix tb d (wOf (Fin.cast nCore_zero c) (Fin.cast nSub_zero i))
  td := fun q d c i => match q with | 0 => brings ix tb d (wOf (Fin.cast nCore_zero c) (Fin.cast nSub_zero i))
  x := fun _ _ => iprop(emp)

instance P_storable : (P (F := F) ix tb).IsStorable where
  st q d c := match q with
    | 0 => (inferInstance : BI.Storable (upEmb : UEmb _ 𝕄) (bigSep Finset.univ fun i : Fin 16 => takes ix tb d (wOf (Fin.cast nCore_zero c) i)))
  dn q d c := match q with
    | 0 => (inferInstance : BI.Storable (upEmb : UEmb _ 𝕄) (bigSep Finset.univ fun i : Fin 16 => brings ix tb d (wOf (Fin.cast nCore_zero c) i)))
  go q d c i := match q with
    | 0 => (inferInstance : BI.Storable (upEmb : UEmb _ 𝕄) (takes ix tb d (wOf (Fin.cast nCore_zero c) (Fin.cast nSub_zero i))))
  td q d c i := match q with
    | 0 => (inferInstance : BI.Storable (upEmb : UEmb _ 𝕄) (brings ix tb d (wOf (Fin.cast nCore_zero c) (Fin.cast nSub_zero i))))

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather (coordsV c s)
          tV (Memref.isWhole_whole _) iV (Memref.isWhole_whole _) oV (Memref.isWhole_whole _)
          aV (Memref.isWhole_whole _) rV (Memref.isWhole_whole _) gV (Memref.isWhole_whole _) uV (Memref.isWhole_whole _)
          cc1_scratch4 cc1_scoped0 cc1_scoped1) ⟨⟩ c s := rfl

omit [FloatOps F] in
/-- A task that has recorded waits at the base index only has recorded none it may not. -/
theorem recorded_ok {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr; swap; · iexact HO
  ipureintro
  intro p hp
  rcases hW' p hp with h | h
  · exact .inl h
  · exact .inr (.inl h)

set_option maxRecDepth 16384 in
theorem tileObl (hF : (K (F := F)).Facts) (hpre : InRows ix) : (K (F := F)).TileObl (D (F := F)) 𝒱 (P ix tb) v₀ 0 := by
  intro d c i O W hO _ _
  simp only [show (P ix tb).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ix tb d (coordsV ⟨_, hci.1⟩ ⟨_, hci.2⟩) hF hpre O W hO).trans (wp_mono frame _ _ fun _ => recorded_ok)

theorem vecSplit : (K (F := F)).VecSplit' (P ix tb) 0 := by
  intro d c
  show (bigSep Finset.univ fun i : Fin 16 => takes ix tb d (wOf (Fin.cast nCore_zero c) i)) ⊢ |={Set.univ}=> iprop(
      (bigSep Finset.univ fun i : Fin 16 => takes ix tb d (wOf (Fin.cast nCore_zero c) i))
      ∗ ((bigSep Finset.univ fun i : Fin 16 => brings ix tb d (wOf (Fin.cast nCore_zero c) i))
          -∗ (bigSep Finset.univ fun i : Fin 16 => brings ix tb d (wOf (Fin.cast nCore_zero c) i))))
  iintro H; imodintro
  isplitl [H]; · iexact H
  iintro H; iexact H

/-! ### The whole arrays and the 32 tasks' parts -/

omit [FloatOps F] in
theorem oSet_eq (w : Fin 32) : oSet w = (orow w).set := by
  show ((View.whole (main_v8_scv : Ref sig .scVector)).slice (orow w)).set = _
  rw [View.set_slice]; exact Finset.map_refl
omit [FloatOps F] in
theorem oPts_rows (d : Dev nD) (f : Buf (Elt F) (oLoc d)) :
    (oLoc d ↦{fullShare} f : sProp 𝕄) = bigSep Finset.univ fun w : Fin 32 => oLoc d ↦[oSet w]{fullShare} f := by
  have hd : ∀ i ∈ (Finset.univ : Finset (Fin 32)), ∀ j ∈ (Finset.univ : Finset (Fin 32)), i ≠ j → Disjoint (oSet i) (oSet j) :=
    fun i _ j _ h => by rw [oSet_eq, oSet_eq]; exact Rect.part_disjoint odiv h
  have hc : (Finset.univ : Finset (Fin 32)).biUnion oSet = Finset.univ :=
    (Finset.biUnion_congr rfl fun i _ => oSet_eq i).trans (Rect.biUnion_part odiv)
  rw [← pointsTo_biUnion Finset.univ (ℓ := oLoc d) oSet hd, hc]; try rfl

/-- Subcore and SparseCore numbers make the task's. -/
def wEquiv : Fin 2 × Fin 16 ≃ Fin 32 := (Equiv.prodComm _ _).trans finProdFinEquiv
omit [FloatOps F] in
theorem wEquiv_apply (c : Fin 2) (i : Fin 16) : wEquiv (c, i) = wOf c i := by
  apply Fin.ext; simp [wEquiv, finProdFinEquiv]; omega

omit [FloatOps F] in
theorem bigSep_wOf (Φ : Fin 32 → sProp 𝕄) :
    (bigSep Finset.univ fun c : Fin 2 => bigSep Finset.univ fun i : Fin 16 => Φ (wOf c i)) = bigSep Finset.univ Φ := by
  rw [bigSep_univ_equiv wEquiv Φ, bigSep_univ_prod]
  simp only [wEquiv_apply]

/-- What the call takes is the arrays whole, -/
theorem st_of_whole (d : Dev nD) :
    iprop(iPts ix d fullShare ∗ tPts tb d fullShare ∗ ∃ f, oLoc d ↦{fullShare} f)
      ⊢ (bigSep Finset.univ fun c : Fin ((K (F := F)).nCore 0) => (P ix tb).st 0 d c) := by
  show _ ⊢ (bigSep Finset.univ fun c : Fin 2 => bigSep Finset.univ fun i : Fin 16 => takes ix tb d (wOf c i))
  rw [bigSep_wOf (F := F) (fun w => takes ix tb d w), bigSep_sep', bigSep_sep']
  unfold iPts tPts
  rw [pointsTo_shr Finset.univ (ix d) 5 fullShare, pointsTo_shr Finset.univ (tb d) 5 fullShare]
  iintro ⟨Hi, Ht, ⟨%f, Ho⟩⟩
  isplitl [Hi]; · iexact Hi
  isplitl [Ht]; · iexact Ht
  iapply (show (oLoc d ↦{fullShare} f : sProp 𝕄) ⊢ bigSep Finset.univ fun w : Fin 32 => iprop(∃ f, oRowPts d w f) from by
    rw [oPts_rows]
    refine bigSep_mono fun w _ => ?_
    show (oLoc d ↦[oSet w]{fullShare} f : sProp 𝕄) ⊢ iprop(∃ f, oRowPts d w f)
    iintro H; iexists f; iexact H)
  iexact Ho

/-- and what it brings back the same with the result at `outVal`. -/
theorem whole_of_dn (d : Dev nD) :
    (bigSep Finset.univ fun c : Fin ((K (F := F)).nCore 0) => (P ix tb).dn 0 d c)
      ⊢ iprop(iPts ix d fullShare ∗ tPts tb d fullShare ∗ oLoc d ↦{fullShare} OUT ix tb d) := by
  show (bigSep Finset.univ fun c : Fin 2 => bigSep Finset.univ fun i : Fin 16 => brings ix tb d (wOf c i)) ⊢ _
  rw [bigSep_wOf (F := F) (fun w => brings ix tb d w), bigSep_sep', bigSep_sep']
  unfold iPts tPts
  rw [pointsTo_shr Finset.univ (ix d) 5 fullShare, pointsTo_shr Finset.univ (tb d) 5 fullShare, oPts_rows]
  exact BI.Entails.refl _

end Split

end Cert.Proof.Whole

end
-- ==== Proof.WholeRun.lean ====
/-
  The whole program's run: from any launch memory for which the rows the grid call finds name rows of the grid, it
  ends with the two results at the rows found and at the rows of the grid they name, the arguments unchanged and every
  counter at zero.
-/
module

public import proofs.«01_k».proof.Proof.ScanSeg
public import proofs.«01_k».proof.Proof.ScSplit
public import Idealize.ShloMosaic.Lib.Pipeline.Frame

@[expose] public section

set_option maxRecDepth 16384

noncomputable section

namespace Cert.Proof.Whole

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within held_sub_split held_congr after)
open Idealize.ShloMosaic.Pipeline (ucRefs)

variable {F : FTy → Type} [FloatOps F]

local notation "𝕄" => MT nD τ sig (HIx 1) (Elt F) ℕ UU ℕ

abbrev EH : Emb UH 𝕄 := embL

variable (m : (ℓ : Loc nD τ sig) → Buf (Elt F) ℓ) (ρ : Dev nD → PrngReg)

/-! ## What the buffers hold along @main -/

abbrev r0 : DevRef τ sig := Proc.devRef .tc main_arg0
abbrev r1 : DevRef τ sig := Proc.devRef .tc main_arg1
abbrev r2 : DevRef τ sig := Proc.devRef .tc main_arg2
abbrev rv2 : DevRef τ sig := Proc.devRef .tc main_v2
abbrev rv4 : DevRef τ sig := Proc.devRef .tc main_v4
abbrev rv5 : DevRef τ sig := Proc.devRef .tc main_v5
abbrev rv6 : DevRef τ sig := Proc.devRef .tc main_v6
abbrev rv7 : DevRef τ sig := Proc.devRef .tc main_v7
abbrev rv8 : DevRef τ sig := Proc.devRef .tc main_v8
abbrev rv9 : DevRef τ sig := Proc.devRef .tc main_v9

abbrev o1 : HloOp τ sig (Elt F) := StableHlo.binary main_arg0 main_arg0 main_v0 (addf : (⟨S2048x8, .f32⟩ : BufTy).Contents (Elt F) → (⟨S2048x8, .f32⟩ : BufTy).Contents (Elt F) → (⟨S2048x8, .f32⟩ : BufTy).Contents (Elt F))
abbrev o2 : HloOp τ sig (Elt F) := StableHlo.nullary main_cst (constant S_ .f32 0xBF800000#32)
abbrev o3 : HloOp τ sig (Elt F) := StableHlo.unary main_cst main_v1 (broadcastInDim S2048x1 ![] bcast_S_S2048x1 : (⟨S_, .f32⟩ : BufTy).Contents (Elt F) → (⟨S2048x1, .f32⟩ : BufTy).Contents (Elt F))
abbrev o4 : HloOp τ sig (Elt F) := StableHlo.binary main_v0 main_v1 main_v2 ((fun a b => concatenate S2048x9 1 [⟨S2048x8, a⟩, ⟨S2048x1, b⟩] concatenates_S2048x8_S2048x1_S2048x9_d1) : (⟨S2048x8, .f32⟩ : BufTy).Contents (Elt F) → (⟨S2048x1, .f32⟩ : BufTy).Contents (Elt F) → (⟨S2048x9, .f32⟩ : BufTy).Contents (Elt F))
abbrev o5 : HloOp τ sig (Elt F) := StableHlo.unary main_arg2 main_v3 (broadcastInDim S65536x1 ![0] bcast_S65536_S65536x1_0 : (⟨S65536, .f32⟩ : BufTy).Contents (Elt F) → (⟨S65536x1, .f32⟩ : BufTy).Contents (Elt F))
abbrev o6 : HloOp τ sig (Elt F) := StableHlo.binary main_arg1 main_v3 main_v4 ((fun a b => concatenate S65536x9 1 [⟨S65536x8, a⟩, ⟨S65536x1, b⟩] concatenates_S65536x8_S65536x1_S65536x9_d1) : (⟨S65536x8, .f32⟩ : BufTy).Contents (Elt F) → (⟨S65536x1, .f32⟩ : BufTy).Contents (Elt F) → (⟨S65536x9, .f32⟩ : BufTy).Contents (Elt F))
abbrev o7 : HloOp τ sig (Elt F) := StableHlo.reshape main_v5 main_v6 (rfl : (.i32 : EltTy) = .i32) shapeCasts_S2048x1_S2048
abbrev o8 : HloOp τ sig (Elt F) := StableHlo.reshape main_arg1 main_v7 (rfl : (.f32 : EltTy) = .f32) shapeCasts_S65536x8_S4096x128
abbrev o9 : HloOp τ sig (Elt F) := StableHlo.reshape main_v8 main_v9 (rfl : (.f32 : EltTy) = .f32) shapeCasts_S16384_S2048x8

abbrev U : Finset (DevRef τ sig) := ucRefs τ sig
theorem o1_sub : (o1 (F := F)).bufs ⊆ U := show ({r0, r0, Proc.devRef .tc main_v0} : Finset (DevRef τ sig)) ⊆ U by decide
theorem o2_sub : (o2 (F := F)).bufs ⊆ U := show ({Proc.devRef .tc main_cst} : Finset (DevRef τ sig)) ⊆ U by decide
theorem o3_sub : (o3 (F := F)).bufs ⊆ U := show ({Proc.devRef .tc main_cst, Proc.devRef .tc main_v1} : Finset (DevRef τ sig)) ⊆ U by decide
theorem o4_sub : (o4 (F := F)).bufs ⊆ U := show ({Proc.devRef .tc main_v0, Proc.devRef .tc main_v1, rv2} : Finset (DevRef τ sig)) ⊆ U by decide
theorem o5_sub : (o5 (F := F)).bufs ⊆ U := show ({r2, Proc.devRef .tc main_v3} : Finset (DevRef τ sig)) ⊆ U by decide
theorem o6_sub : (o6 (F := F)).bufs ⊆ U := show ({r1, Proc.devRef .tc main_v3, rv4} : Finset (DevRef τ sig)) ⊆ U by decide
theorem o7_sub : (o7 (F := F)).bufs ⊆ U := show ({rv5, rv6} : Finset (DevRef τ sig)) ⊆ U by decide
theorem o8_sub : (o8 (F := F)).bufs ⊆ U := show ({r1, rv7} : Finset (DevRef τ sig)) ⊆ U by decide
theorem o9_sub : (o9 (F := F)).bufs ⊆ U := show ({rv8, rv9} : Finset (DevRef τ sig)) ⊆ U by decide

def W0 (d : Dev nD) : Valuation τ sig (Elt F) := fun b => m (d, b)
def W1 (d : Dev nD) : Valuation τ sig (Elt F) := after [o1, o2, o3, o4, o5, o6] (W0 m d)
/-- What the grid call finds in the TensorCore's buffers. -/
def Ain (c : Dev nD) (b : Ref sig .tc) : Buf (Elt F) ((c.tc : Thread nD τ).loc b) := W1 m c (Proc.devRef .tc b)
def W2 (d : Dev nD) : Valuation τ sig (Elt F) := Function.update (W1 m d) rv5 (found (Ain m) d)
def W3 (d : Dev nD) : Valuation τ sig (Elt F) := after [o7, o8] (W2 m d)

/-- The rows found, as a list: the SparseCore call's first input and one of the results. -/
abbrev ixOf (d : Dev nD) : Buf (Elt F) (iLoc d) := shapeCast S2048 (found (Ain m) d) shapeCasts_S2048x1_S2048
/-- The grid sixteen rows to a line: its second. -/
abbrev tbOf (d : Dev nD) : Buf (Elt F) (tLoc d) := shapeCast S4096x128 (m ((SparseCore.T d).loc main_arg1) : S65536x8.Idx → F .f32) shapeCasts_S65536x8_S4096x128
def W4 (d : Dev nD) : Valuation τ sig (Elt F) := Function.update (W3 m d) rv8 (OUT (ixOf m) (tbOf m) d)
def W5 (d : Dev nD) : Valuation τ sig (Elt F) := after [o9] (W4 m d)
/-- The other result. -/
abbrev resOf (d : Dev nD) : S2048x8.Idx → F .f32 := shapeCast S2048x8 (OUT (ixOf m) (tbOf m) d : S16384.Idx → F .f32) shapeCasts_S16384_S2048x8

theorem W1_0 (d : Dev nD) : W1 m d r0 = m ((SparseCore.T d).loc main_arg0) := by unfold W1; after_results <;> rfl
theorem W1_1 (d : Dev nD) : W1 m d r1 = m ((SparseCore.T d).loc main_arg1) := by unfold W1; after_results <;> rfl
theorem W1_2 (d : Dev nD) : W1 m d r2 = m ((SparseCore.T d).loc main_arg2) := by unfold W1; after_results <;> rfl

theorem W3_0 (d : Dev nD) : W3 m d r0 = m ((SparseCore.T d).loc main_arg0) := by
  unfold W3; after_results; unfold W2; rw [Function.update_of_ne (by decide), W1_0]
theorem W3_1 (d : Dev nD) : W3 m d r1 = m ((SparseCore.T d).loc main_arg1) := by
  unfold W3; after_results; unfold W2; rw [Function.update_of_ne (by decide), W1_1]
theorem W3_2 (d : Dev nD) : W3 m d r2 = m ((SparseCore.T d).loc main_arg2) := by
  unfold W3; after_results; unfold W2; rw [Function.update_of_ne (by decide), W1_2]
theorem W3_6 (d : Dev nD) : W3 m d rv6 = ixOf m d := by
  unfold W3; after_results; unfold W2; rw [Function.update_self]; rfl
theorem W3_7 (d : Dev nD) : W3 m d rv7 = tbOf m d := by
  unfold W3; after_results; unfold W2; rw [Function.update_of_ne (by decide), W1_1]; rfl

theorem W5_0 (d : Dev nD) : W5 m d r0 = m ((SparseCore.T d).loc main_arg0) := by
  unfold W5; after_results; unfold W4; rw [Function.update_of_ne (by decide), W3_0]
theorem W5_1 (d : Dev nD) : W5 m d r1 = m ((SparseCore.T d).loc main_arg1) := by
  unfold W5; after_results; unfold W4; rw [Function.update_of_ne (by decide), W3_1]
theorem W5_2 (d : Dev nD) : W5 m d r2 = m ((SparseCore.T d).loc main_arg2) := by
  unfold W5; after_results; unfold W4; rw [Function.update_of_ne (by decide), W3_2]
theorem W5_6 (d : Dev nD) : W5 m d rv6 = ixOf m d := by
  unfold W5; after_results; unfold W4; rw [Function.update_of_ne (by decide), W3_6]
theorem W5_9 (d : Dev nD) : W5 m d rv9 = resOf m d := by
  unfold W5; after_results; unfold W4; rw [Function.update_self]; rfl

/-! ## Taking the calls' buffers out of the ones held -/

abbrev gridBufs : Finset (DevRef τ sig) := {rv2, rv4, rv5}
abbrev callBufs : Finset (DevRef τ sig) := {rv6, rv7, rv8}
abbrev finBufs : Finset (DevRef τ sig) := {r0, r1, r2, rv6, rv9}
theorem gridBufs_sub : gridBufs ⊆ U := by decide
theorem callBufs_sub : callBufs ⊆ U := by decide
theorem finBufs_sub : finBufs ⊆ U := by decide

omit [FloatOps F] in
theorem held_grid (d : Dev nD) (W : Valuation τ sig (Elt F)) :
    (held (T d) gridBufs W : sProp 𝕄) = iprop(((d, rv2) ↦{fullShare} W rv2) ∗ ((d, rv4) ↦{fullShare} W rv4) ∗ (d, rv5) ↦{fullShare} W rv5) := by
  unfold held
  rw [SparseCore.bigSep_insert' (by decide), SparseCore.bigSep_insert' (by decide), bigSep_singleton]
omit [FloatOps F] in
theorem held_call (d : Dev nD) (W : Valuation τ sig (Elt F)) :
    (held (T d) callBufs W : sProp 𝕄) = iprop(((d, rv6) ↦{fullShare} W rv6) ∗ ((d, rv7) ↦{fullShare} W rv7) ∗ (d, rv8) ↦{fullShare} W rv8) := by
  unfold held
  rw [SparseCore.bigSep_insert' (by decide), SparseCore.bigSep_insert' (by decide), bigSep_singleton]
omit [FloatOps F] in
theorem held_fin (d : Dev nD) (W : Valuation τ sig (Elt F)) :
    (held (T d) finBufs W : sProp 𝕄) = iprop(((d, r0) ↦{fullShare} W r0) ∗ ((d, r1) ↦{fullShare} W r1) ∗ ((d, r2) ↦{fullShare} W r2)
      ∗ ((d, rv6) ↦{fullShare} W rv6) ∗ (d, rv9) ↦{fullShare} W rv9) := by
  unfold held
  rw [SparseCore.bigSep_insert' (by decide), SparseCore.bigSep_insert' (by decide), SparseCore.bigSep_insert' (by decide),
    SparseCore.bigSep_insert' (by decide), bigSep_singleton]

theorem rest_grid (d : Dev nD) : (held (T d) (U \ gridBufs) (W2 m d) : sProp 𝕄) = held (T d) (U \ gridBufs) (W1 m d) :=
  held_congr _ fun b hb => Function.update_of_ne (fun h => (Finset.mem_sdiff.mp hb).2 (by rw [h]; decide)) _ _
theorem rest_call (d : Dev nD) : (held (T d) (U \ callBufs) (W4 m d) : sProp 𝕄) = held (T d) (U \ callBufs) (W3 m d) :=
  held_congr _ fun b hb => Function.update_of_ne (fun h => (Finset.mem_sdiff.mp hb).2 (by rw [h]; decide)) _ _

/-! ## The launch -/

/-- The launch's ghost state: the calls' handshake, and the grid pipeline's. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
theorem bigSep_none {I : Type} (s : Finset I) : (bigSep s fun _ => iprop(emp)) = (iprop(emp) : sProp 𝕄) := bigSep_emp_const s

omit [FloatOps F] in
theorem own_pair (a : UP) (b : Counters) : (BI.own ((embR : Emb (UP × Counters) 𝕄) (a, b)) : sProp 𝕄) ⊢ BI.own (EP (F := F) a) := by
  refine (BI.own_op_elim ((embR : Emb (UP × Counters) 𝕄).op_of_mem (Prod.mk_mem_op (URA.mem_op_one a) (URA.mem_one_op b)))).trans ?_
  show iprop(BI.own (EP (F := F) a) ∗ _) ⊢ _
  exact sep_elim_left

/-- The grid pipeline's share of it. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (ixOf m) (tbOf m)).x q thr) := by
  unfold u₀
  iintro Hu
  ihave H := (ownU_pair (initOf (K (F := F)).hsCells (K (F := F)).hsToks) _) $$ Hu
  icases H with ⟨HH, HP⟩
  ihave HP' := (own_pair (F := F) _ _) $$ HP
  imod (Pipeline.fund_ghost (Pipeline.pin (pcfgs (F := F)) adm) EP cellOf_inj) $$ HP' with ⟨Hg, Ht⟩
  imodintro
  isplitl [HH]; · iexact HH
  isplitl [Hg Ht]
  · rw [bigSep_sep']
    isplitl [Hg]
    · rw [show (bigSep Finset.univ fun d : Dev nD => Pipeline.cellsGhost (Pipeline.pin (pcfgs (F := F)) adm) EP 0 d : sProp 𝕄)
        = bigSep Finset.univ fun d : Dev nD => bigSep Finset.univ fun p : Fin 1 => Pipeline.cellsGhost (Pipeline.pin (pcfgs (F := F)) adm) EP p d from
        bigSep_congr fun d _ => (bigSep_univ_of_subsingleton (Φ := fun p : Fin 1 => Pipeline.cellsGhost (Pipeline.pin (pcfgs (F := F)) adm) EP p d) (0 : Fin 1)).symm]
      iexact Hg
    · rw [show (bigSep Finset.univ fun d : Dev nD => Pipeline.toksInit (Pipeline.pin (pcfgs (F := F)) adm) EP 0 d : sProp 𝕄)
        = bigSep Finset.univ fun d : Dev nD => bigSep Finset.univ fun p : Fin 1 => Pipeline.toksInit (Pipeline.pin (pcfgs (F := F)) adm) EP p d from
        bigSep_congr fun d _ => (bigSep_univ_of_subsingleton (Φ := fun p : Fin 1 => Pipeline.toksInit (Pipeline.pin (pcfgs (F := F)) adm) EP p d) (0 : Fin 1)).symm]
      iexact Ht
  rw [show (bigSep Finset.univ fun thr : Thread nD τ => bigSep Finset.univ fun q : Fin 1 => (P (ixOf m) (tbOf m)).x q thr) = bigSep Finset.univ fun _ => iprop(emp) from
    bigSep_congr fun _ _ => bigSep_univ_of_subsingleton (0 : Fin 1), bigSep_none]
  iempintro

/-- What @main leaves: the arguments as they were, and the results. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_v6 ↦{fullShare} ixOf m d) ∗ (SparseCore.T d).loc main_v9 ↦{fullShare} resOf m d)

theorem unscoped_held (d : Dev nD) : (unscopedBufs d (fun b => m ((SparseCore.T d).loc b)) : sProp 𝕄) = held (T d) U (W0 m d) :=
  Pipeline.unscopedBufs_held d (W0 m d)

set_option maxHeartbeats 3200000 in
theorem hmain (κ : GSem nD τ sig → ℕ) (d : Dev nD) :
    iprop((K (F := F)).ctx EH (P (ixOf m) (tbOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  iapply (wp_hlo_within 𝒱 (SparseCore.T d) none Set.univ (op := o1) (S := U) o1_sub (V := W0 m d)) $$ [Hb Hheld]
  · isplitl [Hb] <;> iassumption
  iintro ⟨Hb, Hheld⟩
  rw [wp_ret]; imodintro
  iapply (wp_hlo_within 𝒱 (SparseCore.T d) none Set.univ (op := o2) (S := U) o2_sub) $$ [Hb Hheld]
  · isplitl [Hb] <;> iassumption
  iintro ⟨Hb, Hheld⟩
  rw [wp_ret]; imodintro
  iapply (wp_hlo_within 𝒱 (SparseCore.T d) none Set.univ (op := o3) (S := U) o3_sub) $$ [Hb Hheld]
  · isplitl [Hb] <;> iassumption
  iintro ⟨Hb, Hheld⟩
  rw [wp_ret]; imodintro
  iapply (wp_hlo_within 𝒱 (SparseCore.T d) none Set.univ (op := o4) (S := U) o4_sub) $$ [Hb Hheld]
  · isplitl [Hb] <;> iassumption
  iintro ⟨Hb, Hheld⟩
  rw [wp_ret]; imodintro
  iapply (wp_hlo_within 𝒱 (SparseCore.T d) none Set.univ (op := o5) (S := U) o5_sub) $$ [Hb Hheld]
  · isplitl [Hb] <;> iassumption
  iintro ⟨Hb, Hheld⟩
  rw [wp_ret]; imodintro
  iapply (wp_hlo_within 𝒱 (SparseCore.T d) none Set.univ (op := o6) (S := U) o6_sub) $$ [Hb Hheld]
  · isplitl [Hb] <;> iassumption
  iintro ⟨Hb, Hheld⟩
  rw [wp_ret, show (o6 (F := F)).result ((o5 (F := F)).result ((o4 (F := F)).result ((o3 (F := F)).result ((o2 (F := F)).result ((o1 (F := F)).result (W0 m d))))))
    = W1 m d from rfl]; imodintro
  -- the grid call
  ihave Hh := (Entails.of_eq ((held_sub_split (T d) gridBufs_sub (W1 m d)).trans (by rw [held_grid, ← rest_grid]))) $$ Hheld
  icases Hh with ⟨⟨H2, H4, H5⟩, Hrest⟩
  ihave Hst' := (Entails.of_eq (SparseCore.Cfg.tcSt.eq_1 (K (F := F)) EH d 0)) $$ Hst
  icases Hst' with ⟨⟨%W, %hW, HO⟩, Hst⟩
  rw [show (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) .ret) from rfl]
  iapply ((K (F := F)).wp_liftProg (D (F := F)) 𝒱 (SparseCore.T d) Set.univ none)
  iapply (step (Ain m) d)
  ihave Hlev := (SparseCore.Cfg.ctx_levAts κ) $$ Hctx
  icases HG with ⟨Hg, Ht⟩
  isplitr [Hb H2 H4 H5 HO Hlev Hg Ht]
  swap
  · isplitl [Hb]; · iexact Hb
    isplitl [H2 H4 H5 HO]
    · unfold stPre
      isplitl [H2]; · iexact H2
      isplitl [H4]; · iexact H4
      isplitl [H5]; · iexact H5
      iexists W; isplitr; · ipureintro; exact hW
      iexact HO
    isplitl [Hlev]; · iexact Hlev
    isplitl [Hg] <;> iassumption
  unfold stPost
  iintro ⟨Hb, H2, H4, H5, HO⟩
  rw [wp_ret]; imodintro
  ihave Hst := (Entails.of_eq (SparseCore.Cfg.tcSt.eq_1 (K (F := F)) EH d 0).symm) $$ [HO Hst]
  · isplitl [HO]; · iexact HO
    iexact Hst
  ihave Hheld := (Entails.of_eq (held_sub_split (T d) gridBufs_sub (W2 m d)).symm) $$ [H2 H4 H5 Hrest]
  · isplitr [Hrest]; swap; · iexact Hrest
    rw [held_grid]
    unfold W2
    rw [Function.update_self, Function.update_of_ne (show rv2 ≠ rv5 by decide), Function.update_of_ne (show rv4 ≠ rv5 by decide)]
    isplitl [H2]; · iexact H2
    isplitl [H4]; · iexact H4
    iexact H5
  -- the two lists of the SparseCore call
  iapply (wp_hlo_within 𝒱 (SparseCore.T d) none Set.univ (op := o7) (S := U) o7_sub (V := W2 m d)) $$ [Hb Hheld]
  · isplitl [Hb] <;> iassumption
  iintro ⟨Hb, Hheld⟩
  rw [wp_ret]; imodintro
  iapply (wp_hlo_within 𝒱 (SparseCore.T d) none Set.univ (op := o8) (S := U) o8_sub) $$ [Hb Hheld]
  · isplitl [Hb] <;> iassumption
  iintro ⟨Hb, Hheld⟩
  rw [wp_ret, show (o8 (F := F)).result ((o7 (F := F)).result (W2 m d)) = W3 m d from rfl]; imodintro
  ihave Hh := (Entails.of_eq ((held_sub_split (T d) callBufs_sub (W3 m d)).trans (by rw [held_call, ← rest_call, W3_6, W3_7]))) $$ Hheld
  icases Hh with ⟨⟨H6, H7, H8⟩, Hrest⟩
  iapply ((K (F := F)).wp_run (D (F := F)) 𝒱 (EH := EH) (P := P (ixOf m) (tbOf m)) κ d 0) $$ [Hst H6 H7 H8 Hb Hts Hrest]
  isplitr; · iexact Hctx
  isplitl [Hst]; · iexact Hst
  isplitl [H6 H7 H8]
  · iapply (st_of_whole (ixOf m) (tbOf m) d)
    isplitl [H6]; · iexact H6
    isplitl [H7]; · iexact H7
    iexists _; iexact H8
  iintro ⟨Hst, Hdn⟩
  ihave Hdn' := (whole_of_dn (ixOf m) (tbOf m) d) $$ Hdn
  icases Hdn' with ⟨H6, H7, H8⟩
  ihave Hheld := (Entails.of_eq (held_sub_split (T d) callBufs_sub (W4 m d)).symm) $$ [H6 H7 H8 Hrest]
  · isplitr [Hrest]; swap; · iexact Hrest
    rw [held_call]
    unfold W4
    rw [Function.update_self, Function.update_of_ne (show rv6 ≠ rv8 by decide), Function.update_of_ne (show rv7 ≠ rv8 by decide), W3_6, W3_7]
    isplitl [H6]; · iexact H6
    isplitl [H7]; · iexact H7
    iexact H8
  iapply (wp_hlo_within 𝒱 (SparseCore.T d) none Set.univ (op := o9) (S := U) o9_sub (V := W4 m d)) $$ [Hb Hheld]
  · isplitl [Hb] <;> iassumption
  iintro ⟨Hb, Hheld⟩
  rw [show (o9 (F := F)).result (W4 m d) = W5 m d from rfl]
  ihave Hh := (Entails.of_eq ((held_sub_split (T d) finBufs_sub (W5 m d)).trans (by rw [held_fin, W5_0, W5_1, W5_2, W5_6, W5_9]))) $$ Hheld
  icases Hh with ⟨H, -⟩
  rw [wp_ret]; imodintro; imodintro
  isplitl [Hst]; · iexact Hst
  isplitl [H]; · iexact H
  isplitl [Hb] <;> iassumption

def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_v6) = ixOf m d
    ∧ s'.mem.mem ((SparseCore.T d).loc main_v9) = resOf m d

theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H6, H9⟩, HSI⟩
  ihave H := (agree s' _ _) $$ [HSI H0]
  · isplitl [HSI]; · iexact HSI
    iexact H0
  icases H with ⟨%h0, HSI⟩
  ihave H := (agree s' _ _) $$ [HSI H1]
  · isplitl [HSI]; · iexact HSI
    iexact H1
  icases H with ⟨%h1, HSI⟩
  ihave H := (agree s' _ _) $$ [HSI H2]
  · isplitl [HSI]; · iexact HSI
    iexact H2
  icases H with ⟨%h2, HSI⟩
  ihave H := (agree s' _ _) $$ [HSI H6]
  · isplitl [HSI]; · iexact HSI
    iexact H6
  icases H with ⟨%h6, HSI⟩
  ihave H := (agree s' _ _) $$ [HSI H9]
  · isplitl [HSI]; · iexact HSI
    iexact H9
  icases H with ⟨%h9, HSI⟩
  ipureintro
  exact ⟨h0, h1, h2, h6, h9⟩

def QC : PUnit × MemSt nD τ sig (Elt F) → Prop := fun r => (∀ c : Dev nD, r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_v6) = ixOf m c
    ∧ r.2.mem ((SparseCore.T c).loc main_v9) = resOf m c) ∧ r.2.sem = fun _ => 0

/-- The program's run, with what it computes. -/
theorem run_main [∀ e, Nonempty (Elt F e)] (hpre : InRows (ixOf m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ixOf m) (tbOf m)) (A := ∅) facts v₀
    (fun q hq => match q with | 0 => nomatch hq)
    (fun q _ => match q with | 0 => tileObl (ixOf m) (tbOf m) facts hpre)
    (fun q _ => match q with | 0 => SparseCore.Cfg.VecSplit.of_plain (vecSplit (ixOf m) (tbOf m)))
    m ρ main (fun d => G (F := F) d) (FIN m) (u₀ (F := F)) (sep_elim_left.trans (hu₀ m)) (hmain m ρ) (fq m) (hfin m) (QC m) (fun _ h hz => ⟨h, hz⟩)

end Cert.Proof.Whole

end
-- ==== Proof.FirstMax.lean ====
/-
  The greatest of a list of extended reals together with the first place that has it: what it is, that it is one pair,
  how the pairs of two neighbouring stretches join, how a stretch's maximum followed by the minimum of the places that
  attain it finds it, and how a fold that breaks ties by the smaller place finds it. And the sum that a doubled factor and
  a column of minus ones carry through one product.
-/
module

public import Idealize.ShloMosaic.PureOps.Ideal
public import Idealize.ShloMosaic.PureOps.Ideal.Laws
public import Mathlib.Data.Finset.Fold

@[expose] public section

noncomputable section

namespace Cert.Proof.First

open Idealize.ShloMosaic

/-- `v` is the greatest of `f` from `lo` up to `hi`, and the word `w` names the first place that has it. -/
def FirstMax (f : ℕ → EReal) (lo hi : ℕ) (v : EReal) (w : BitVec 32) : Prop :=
  ∃ q, lo ≤ q ∧ q < hi ∧ v = f q ∧ w = BitVec.ofNat 32 q ∧ (∀ r, lo ≤ r → r < hi → f r ≤ f q) ∧ ∀ r, lo ≤ r → r < q → f r < f q

theorem FirstMax.unique {f : ℕ → EReal} {lo hi : ℕ} {v v' : EReal} {w w' : BitVec 32} (h : FirstMax f lo hi v w) (h' : FirstMax f lo hi v' w') :
    w = w' := by
  obtain ⟨q, hl, hu, -, rfl, hm, hs⟩ := h
  obtain ⟨q', hl', hu', -, rfl, hm', hs'⟩ := h'
  rcases lt_trichotomy q q' with hq | rfl | hq
  · exact absurd (hs' q hl hq) (not_lt.mpr (hm q' hl' hu'))
  · rfl
  · exact absurd (hs q' hl' hq) (not_lt.mpr (hm' q hl hu))

theorem FirstMax.congr {f f' : ℕ → EReal} {lo hi : ℕ} {v : EReal} {w : BitVec 32} (e : ∀ r, lo ≤ r → r < hi → f r = f' r)
    (h : FirstMax f lo hi v w) : FirstMax f' lo hi v w := by
  obtain ⟨q, hl, hu, rfl, rfl, hm, hs⟩ := h
  refine ⟨q, hl, hu, e q hl hu, rfl, fun r h1 h2 => ?_, fun r h1 h2 => ?_⟩
  · rw [← e r h1 h2, ← e q hl hu]; exact hm r h1 h2
  · rw [← e r h1 (h2.trans hu), ← e q hl hu]; exact hs r h1 h2

theorem FirstMax.word {f : ℕ → EReal} {lo hi : ℕ} {v : EReal} {w : BitVec 32} (h : FirstMax f lo hi v w) (hb : hi ≤ 4294967296) :
    w.toNat < hi := by
  obtain ⟨q, -, hu, -, rfl, -, -⟩ := h
  rw [BitVec.toNat_ofNat, Nat.mod_eq_of_lt (by omega)]
  exact hu

theorem select_gt {α : Type} (a b : EReal) (x y : α) : Scalar.select (Ideal.cmp .ogt a b) x y = if b < a then x else y := by
  unfold Scalar.select Ideal.cmp
  by_cases h : b < a <;> simp [h]

theorem select_eq {α : Type} (a b : EReal) (x y : α) : Scalar.select (Ideal.cmp .oeq a b) x y = if a = b then x else y := by
  unfold Scalar.select Ideal.cmp
  by_cases h : a = b <;> simp [h]

/-- Of two neighbouring stretches the later one's pair is kept when its value is strictly greater. -/
theorem FirstMax.join {f : ℕ → EReal} {lo mid hi : ℕ} {v v' : EReal} {w w' : BitVec 32} (h : FirstMax f lo mid v w) (h' : FirstMax f mid hi v' w') :
    FirstMax f lo hi (Scalar.select (Ideal.cmp .ogt v' v) v' v) (Scalar.select (Ideal.cmp .ogt v' v) w' w) := by
  obtain ⟨q, hl, hu, rfl, rfl, hm, hs⟩ := h
  obtain ⟨q', hl', hu', rfl, rfl, hm', hs'⟩ := h'
  rw [select_gt, select_gt]
  by_cases hc : f q < f q'
  · rw [if_pos hc, if_pos hc]
    refine ⟨q', by omega, hu', rfl, rfl, fun r h1 h2 => ?_, fun r h1 h2 => ?_⟩
    · by_cases hr : r < mid
      · exact (hm r h1 hr).trans hc.le
      · exact hm' r (by omega) h2
    · by_cases hr : r < mid
      · exact (hm r h1 hr).trans_lt hc
      · exact hs' r (by omega) h2
  · rw [if_neg hc, if_neg hc]
    refine ⟨q, hl, by omega, rfl, rfl, fun r h1 h2 => ?_, hs⟩
    by_cases hr : r < mid
    · exact hm r h1 hr
    · exact (hm' r (by omega) h2).trans (not_lt.mp hc)

/-! ## A stretch: its maximum, then the least place that has it -/

theorem fold_max_le {n : ℕ} (s : Fin n → EReal) (k : Fin n) : s k ≤ (Finset.univ : Finset (Fin n)).fold max ⊥ s :=
  (Finset.le_fold_max (s k)).mpr (Or.inr ⟨k, Finset.mem_univ k, le_rfl⟩)

theorem fold_max_mem {n : ℕ} (hn : 0 < n) (s : Fin n → EReal) : ∃ k, (Finset.univ : Finset (Fin n)).fold max ⊥ s = s k := by
  rcases (Finset.le_fold_max (s := (Finset.univ : Finset (Fin n))) (b := (⊥ : EReal)) (f := s)
    ((Finset.univ : Finset (Fin n)).fold max ⊥ s)).mp le_rfl with h | ⟨k, -, h⟩
  · exact ⟨⟨0, hn⟩, le_antisymm (h.trans bot_le) (fold_max_le s _)⟩
  · exact ⟨k, le_antisymm h (fold_max_le s k)⟩

/-- A small natural number converted to a word. -/
theorem fptosi_nat (n : ℕ) (hn : n < 2147483647) : Ideal.fptosi 32 ((n : ℝ) : EReal) = BitVec.ofNat 32 n := by
  have hf : ⌊(n : ℝ)⌋ = (n : ℤ) := Int.floor_natCast n
  rw [Ideal.fptosi, Ideal.toIntClamped_coe, if_pos (Nat.cast_nonneg n), hf]
  have : max (-((2 ^ (32 - 1) : ℕ) : ℤ)) (min (((2 ^ (32 - 1) : ℕ) : ℤ) - 1) (n : ℤ)) = (n : ℤ) := by
    rw [min_eq_right (by norm_num; omega), max_eq_right (by norm_num)]
  rw [this]
  exact BitVec.ofInt_natCast ..

/-- The least lane whose element is the maximum, found as a minimum over the lanes of their numbers, those whose element is
    not the maximum replaced by a large number. -/
theorem lanes {n : ℕ} (hn : 0 < n) (hn' : n ≤ 65536) (s : Fin n → EReal) (M big : EReal) (hM : M = (Finset.univ : Finset (Fin n)).fold max ⊥ s)
    (hbig : ((n : ℝ) : EReal) ≤ big) :
    ∃ q : Fin n, M = s q ∧ (∀ r : Fin n, r.val < q.val → s r < s q)
      ∧ (Finset.univ : Finset (Fin n)).fold min ⊤ (fun k => Scalar.select (Ideal.cmp .oeq (s k) M) ((k.val : ℝ) : EReal) big) = ((q.val : ℝ) : EReal) := by
  have hex : ∃ a, ∃ h : a < n, s ⟨a, h⟩ = M := by
    obtain ⟨k, hk⟩ := fold_max_mem hn s
    exact ⟨k.val, k.isLt, by rw [hM, hk]⟩
  classical
  obtain ⟨hq, hs⟩ := Nat.find_spec hex
  have hle : ∀ k, s k ≤ M := fun k => hM ▸ fold_max_le s k
  refine ⟨⟨Nat.find hex, hq⟩, hs.symm, fun r hr => ?_, le_antisymm ?_ ?_⟩
  · have hne : s r ≠ M := fun e => Nat.find_min hex hr ⟨r.isLt, e⟩
    rw [hs]; exact lt_of_le_of_ne (hle r) hne
  · refine (Finset.fold_min_le _).mpr (Or.inr ⟨⟨Nat.find hex, hq⟩, Finset.mem_univ _, ?_⟩)
    rw [select_eq, if_pos hs]
  · refine (Finset.le_fold_min _).mpr ⟨le_top, fun k _ => ?_⟩
    rw [select_eq]
    by_cases hk : s k = M
    · rw [if_pos hk]
      exact_mod_cast Nat.find_min' hex ⟨k.isLt, hk⟩
    · rw [if_neg hk]
      refine le_trans ?_ hbig
      exact_mod_cast hq.le

/-- So a stretch's maximum and the place found are its pair. -/
theorem firstMax_lanes {n : ℕ} (hn : 0 < n) (hn' : n ≤ 65536) (f : ℕ → EReal) (base : ℕ) (s : Fin n → EReal) (hf : ∀ k : Fin n, s k = f (base + k.val))
    (big : EReal) (hbig : ((n : ℝ) : EReal) ≤ big) (w : BitVec 32) (hw : w = BitVec.ofNat 32 base) :
    FirstMax f base (base + n) ((Finset.univ : Finset (Fin n)).fold max ⊥ s)
      (Ideal.fptosi 32 ((Finset.univ : Finset (Fin n)).fold min ⊤ (fun k => Scalar.select (Ideal.cmp .oeq (s k) ((Finset.univ : Finset (Fin n)).fold max ⊥ s))
        ((k.val : ℝ) : EReal) big)) + w) := by
  obtain ⟨q, hM, hs, hq⟩ := lanes hn hn' s _ big rfl hbig
  have hle := fold_max_le s
  rw [hq, fptosi_nat _ (by omega), hw]
  rw [hM] at hle ⊢
  refine ⟨base + q.val, by omega, by omega, hf q, ?_, fun r h1 h2 => ?_, fun r h1 h2 => ?_⟩
  · rw [← BitVec.ofNat_add, Nat.add_comm]
  · have := hle ⟨r - base, by omega⟩
    rwa [hf, hf, show base + (r - base) = r by omega] at this
  · have := hs ⟨r - base, by omega⟩ (show r - base < q.val by omega)
    rwa [hf, hf, show base + (r - base) = r by omega] at this

/-! ## A fold that keeps the greater value and, of equal values, the smaller place -/

/-- One step of the fold. -/
def keep (a b : EReal × BitVec 32) : EReal × BitVec 32 :=
  (Scalar.select (IntOp.ori (Ideal.cmp .ogt a.1 b.1) (Ideal.cmp .une a.1 a.1)) a.1 b.1,
    Scalar.select (IntOp.ori (IntOp.ori (Ideal.cmp .ogt a.1 b.1) (Ideal.cmp .une a.1 a.1)) (IntOp.andi (Ideal.cmp .oeq a.1 b.1) (IntOp.cmpi .slt a.2 b.2))) a.2 b.2)

theorem keep_eq (a b : EReal × BitVec 32) : keep a b = if b.1 < a.1 ∨ (a.1 = b.1 ∧ a.2.slt b.2 = true) then a else b := by
  unfold keep Scalar.select IntOp.ori IntOp.andi IntOp.cmpi Ideal.cmp
  rcases lt_trichotomy b.1 a.1 with h | h | h
  · simp [h, h.ne']
  · cases hs : a.2.slt b.2
    · simp [h]; rw [← h]
    · simp [h]
  · simp [not_lt.mpr h.le, h.ne]

theorem slt_small {a b : BitVec 32} (ha : a.toNat < 65536) (hb : b.toNat < 65536) : a.slt b = true ↔ a.toNat < b.toNat := by
  rw [BitVec.slt_iff_toInt_lt, BitVec.toInt_eq_toNat_of_lt (by omega), BitVec.toInt_eq_toNat_of_lt (by omega)]
  exact Int.ofNat_lt

/-- The fold's result is one of the pairs, no value is greater, and no pair of the same value has a smaller place. -/
theorem foldl_keep (l : List (EReal × BitVec 32)) : ∀ a : EReal × BitVec 32, a.2.toNat < 65536 → (∀ b ∈ l, b.2.toNat < 65536) →
    l.foldl keep a ∈ a :: l ∧ ∀ b ∈ a :: l, b.1 ≤ (l.foldl keep a).1 ∧ (b.1 = (l.foldl keep a).1 → (l.foldl keep a).2.toNat ≤ b.2.toNat) := by
  induction l with
  | nil =>
    intro a _ _
    refine ⟨List.mem_singleton.mpr rfl, fun b hb => ?_⟩
    rw [List.mem_singleton] at hb; subst hb
    exact ⟨le_rfl, fun _ => le_rfl⟩
  | cons x l ih =>
    intro a ha hl
    have hx : x.2.toNat < 65536 := hl x List.mem_cons_self
    have hk := keep_eq a x
    simp only [slt_small ha hx] at hk
    rw [List.foldl_cons]
    by_cases hc : x.1 < a.1 ∨ (a.1 = x.1 ∧ a.2.toNat < x.2.toNat)
    · rw [if_pos hc] at hk; rw [hk]
      obtain ⟨hm, hall⟩ := ih a ha fun b hb => hl b (List.mem_cons_of_mem _ hb)
      refine ⟨?_, fun b hb => ?_⟩
      · rcases List.mem_cons.mp hm with h | h
        · rw [h]; exact List.mem_cons_self
        · exact List.mem_cons_of_mem _ (List.mem_cons_of_mem _ h)
      · have hA := hall a List.mem_cons_self
        rcases List.mem_cons.mp hb with rfl | hb
        · exact hA
        rcases List.mem_cons.mp hb with rfl | hb
        · rcases hc with hc | ⟨he, hlt⟩
          · exact ⟨hc.le.trans hA.1, fun e => absurd (hc.trans_le hA.1) (by rw [e]; exact lt_irrefl _)⟩
          · rw [he] at hA
            exact ⟨hA.1, fun e => (hA.2 e).trans hlt.le⟩
        · exact hall b (List.mem_cons_of_mem _ hb)
    · rw [if_neg hc] at hk; rw [hk]
      obtain ⟨hm, hall⟩ := ih x hx fun b hb => hl b (List.mem_cons_of_mem _ hb)
      refine ⟨List.mem_cons_of_mem _ hm, fun b hb => ?_⟩
      rcases List.mem_cons.mp hb with rfl | hb
      · have hX := hall x List.mem_cons_self
        push Not at hc
        refine ⟨hc.1.trans hX.1, fun e => ?_⟩
        have he : b.1 = x.1 := le_antisymm hc.1 (e ▸ hX.1)
        exact (hX.2 (he ▸ e)).trans (hc.2 he)
      · exact hall b hb

/-- Over the pairs of all places, from the least value and place nought, the fold finds the greatest value and the first
    place that has it. -/
theorem firstMax_foldl (f : ℕ → EReal) (l : List (EReal × BitVec 32)) (hmem : ∀ p, p ∈ l ↔ ∃ r, r < 65536 ∧ p = (f r, BitVec.ofNat 32 r)) :
    FirstMax f 0 65536 (l.foldl keep (⊥, 0#32)).1 (l.foldl keep (⊥, 0#32)).2 := by
  have hn : ∀ r, r < 65536 → (BitVec.ofNat 32 r).toNat = r := fun r hr => by
    rw [BitVec.toNat_ofNat, Nat.mod_eq_of_lt (by omega)]
  have hl : ∀ b ∈ l, b.2.toNat < 65536 := fun b hb => by
    obtain ⟨r, hr, rfl⟩ := (hmem b).mp hb
    show (BitVec.ofNat 32 r).toNat < 65536
    rw [hn r hr]; exact hr
  obtain ⟨hm, hall⟩ := foldl_keep l (⊥, 0#32) (by decide) hl
  set p := l.foldl keep (⊥, 0#32)
  have hin : ∀ r, r < 65536 → f r ≤ p.1 ∧ (f r = p.1 → p.2.toNat ≤ r) := fun r hr => by
    have := hall (f r, BitVec.ofNat 32 r) (List.mem_cons_of_mem _ ((hmem _).mpr ⟨r, hr, rfl⟩))
    rwa [hn r hr] at this
  have hex : ∃ q, q < 65536 ∧ p.1 = f q ∧ p.2 = BitVec.ofNat 32 q := by
    rcases List.mem_cons.mp hm with h | h
    · refine ⟨0, by decide, ?_, ?_⟩
      · have h0 := (hin 0 (by decide)).1
        rw [h] at h0 ⊢
        exact (le_bot_iff.mp h0).symm
      · rw [h]
    · obtain ⟨q, hq, e⟩ := (hmem p).mp h
      exact ⟨q, hq, by rw [e], by rw [e]⟩
  obtain ⟨q, hq, h1, h2⟩ := hex
  refine ⟨q, Nat.zero_le _, hq, h1, h2, fun r _ hr => h1 ▸ (hin r hr).1, fun r _ hr => ?_⟩
  have hr' := hin r (hr.trans hq)
  refine lt_of_le_of_ne (h1 ▸ hr'.1) fun e => ?_
  have := hr'.2 (e.trans h1.symm)
  rw [h2, hn q hq] at this
  omega

/-! ## The sum -/

theorem neg_add_neg (v : EReal) : -v + -v = -(v + v) := by
  induction v with
  | bot => simp
  | top => simp
  | coe r => norm_cast; ring

theorem double_mul (a b : EReal) : (a + a) * b = a * b + a * b := by
  rcases le_total 0 a with h | h
  · exact EReal.right_distrib_of_nonneg h h
  · have hx : 0 ≤ -a := EReal.neg_nonneg.mpr h
    have := EReal.right_distrib_of_nonneg (c := b) hx hx
    rw [neg_add_neg, neg_mul, neg_mul, neg_add_neg] at this
    exact neg_injective this

theorem two_mul' (y : EReal) : 2 * y = y + y := by
  have h : (2 : EReal) = 1 + 1 := by norm_num
  rw [h, double_mul, one_mul]

/-- The factor doubled and a last column of minus ones: twice the sum less the last factor. -/
theorem sum_doubled {n : ℕ} (x g : Fin n → EReal) (c : EReal) :
    (∑ k, (x k + x k) * g k) + (-1) * c = 2 * (∑ k, x k * g k) - c := by
  rw [two_mul', ← Finset.sum_add_distrib, neg_mul, one_mul, sub_eq_add_neg]
  simp only [double_mul]

end Cert.Proof.First

end
-- ==== Proof.ScanValue.lean ====
/-
  What the grid call finds, over the extended reals: at each query the first row of the grid whose score is greatest. A
  stretch of a block's rows is scored by one product; its maximum and the least lane that has it are one stretch's pair, a
  point joins its four, and the points join one after another.
-/
module

public import proofs.«01_k».proof.Proof.FirstMax
public import proofs.«01_k».proof.Proof.ScanSeg
public import Idealize.ShloMosaic.Lib.ValueIdx
public import Idealize.ShloMosaic.Lib.Pipeline.Value

@[expose] public section

set_option maxRecDepth 16384

noncomputable section

namespace Cert.Proof.Whole

open Cert.KernelIdeal Cert.KernelIdeal.Gen Cert.Proof.First
open Idealize.ShloMosaic Idealize.ShloMosaic.ValueIdx

/-! ## A stretch -/

/-- Query `i` and lane `l`. -/
abbrev ql (i : Fin 2048) (l : Fin 1024) : S2048x1024.Idx := ix2 i l
/-- Query `i` of a column. -/
abbrev qc (i : Fin 2048) : S2048x1.Idx := ix2 i (0 : Fin 1)
/-- Query `i` of a list. -/
abbrev q1 (i : Fin 2048) : S2048.Idx := fun | 0 => i

theorem lift_lane (i : Fin 2048) (k : Fin 1024) : reduces_S2048x1024_S2048.lift (q1 i) k = ql i k := by
  funext a
  match a with
  | 0 => rfl
  | 1 => rfl

theorem column {α : Type} (x : S2048.Idx → α) (h : S2048.ShapeCasts S2048x1) (i : Fin 2048) : shapeCast S2048x1 x h (qc i) = x (q1 i) := by
  refine shapeCast_apply x h _ _ ?_
  rw [Shape.rowMajor_val_two, Shape.rowMajor_val_one (d := ![2048])]
  show i.val = i.val * 1 + 0
  omega

theorem neg_inf : FloatOps.ofBits (F := Ideal) .f32 0xFF800000#32 = (⊥ : EReal) := by
  show Ideal.ofBits .f32 0xFF800000#32 = ⊥
  simp [Ideal.ofBits, Ideal.ieee]
theorem pos_inf : FloatOps.ofBits (F := Ideal) .f32 0x7F800000#32 = (⊤ : EReal) := by
  show Ideal.ofBits .f32 0x7F800000#32 = ⊤
  simp [Ideal.ofBits, Ideal.ieee]
/-- The number a lane that does not have the maximum is given. -/
theorem large : ((1024 : ℕ) : ℝ) ≤ Scalar.ofBits (F := Ideal) .f32 0x4F32D05E#32 := by
  show (((1024 : ℕ) : ℝ) : EReal) ≤ Ideal.ofBits .f32 0x4F32D05E#32
  simp [Ideal.ofBits, Ideal.ieee, -EReal.coe_mul]
  norm_num

/-- The maximum of each query's lanes. -/
def laneMax (s : FVec Ideal S2048x1024 .f32) : FVec Ideal S2048x1 .f32 :=
  shapeCast S2048x1 (multiReduction .maximumf [1] S2048 s 0xFF800000#32 reduces_S2048x1024_S2048 (.inl rfl) rfl) shapeCasts_S2048_S2048x1
theorem laneMax_apply (s : FVec Ideal S2048x1024 .f32) (i : Fin 2048) :
    laneMax s (qc i) = (Finset.univ : Finset (Fin 1024)).fold max (⊥ : EReal) (fun k => s (ql i k)) := by
  refine (column _ shapeCasts_S2048_S2048x1 i).trans ((Ideal.multiReduction_maximumf_single s 0xFF800000#32 reduces_S2048x1024_S2048 (.inl rfl) rfl (q1 i)).trans ?_)
  rw [neg_inf]
  exact congrArg (Finset.fold max (⊥ : EReal) · Finset.univ) (funext fun k => congrArg s (lift_lane i k))

/-- The lanes' numbers, each taken as a real. -/
def numbers : FVec Ideal S2048x1024 .f32 := sitofp .f32 (iota .tc S2048x1024 32 [1] iota_S2048x1024_d1_w32)

theorem lane_number (i : Fin 2048) (k : Fin 1024) : numbers (ql i k) = (((k.val : ℕ) : ℝ) : EReal) := by
  show ((((BitVec.ofNat 32 (0 * 1024 + k.val)).toInt : ℤ) : ℝ) : EReal) = _
  have : (BitVec.ofNat 32 (0 * 1024 + k.val)).toInt = (k.val : ℤ) := by
    have hk := k.isLt
    have h : (BitVec.ofNat 32 (0 * 1024 + k.val)).toNat = k.val := by
      rw [BitVec.toNat_ofNat, Nat.zero_mul, Nat.zero_add, Nat.mod_eq_of_lt (by omega)]
    rw [BitVec.toInt_eq_toNat_of_lt (by rw [h]; omega), h]
  rw [this]
  norm_cast

/-- The lanes that have the maximum at their numbers, the others at a large number. -/
def marked (s : FVec Ideal S2048x1024 .f32) : FVec Ideal S2048x1024 .f32 :=
  select (cmpf .oeq s (broadcastTo S2048x1024 (laneMax s) broadcasts_S2048x1_S2048x1024)) numbers
    (broadcast S2048x1024 (Scalar.ofBits (F := Ideal) .f32 0x4F32D05E#32))

theorem marked_apply (s : FVec Ideal S2048x1024 .f32) (i : Fin 2048) (k : Fin 1024) :
    marked s (ql i k) = Scalar.select (Ideal.cmp .oeq (s (ql i k)) (laneMax s (qc i))) (((k.val : ℕ) : ℝ) : EReal)
      (Scalar.ofBits (F := Ideal) .f32 0x4F32D05E#32 : EReal) := by
  have e : broadcastTo S2048x1024 (laneMax s) broadcasts_S2048x1_S2048x1024 (ql i k) = laneMax s (qc i) :=
    congrArg (laneMax s) (funext fun a => match a with | 0 => rfl | 1 => rfl)
  have h : marked s (ql i k) = Scalar.select (Ideal.cmp .oeq (s (ql i k)) (broadcastTo S2048x1024 (laneMax s) broadcasts_S2048x1_S2048x1024 (ql i k)))
      (numbers (ql i k)) (Scalar.ofBits (F := Ideal) .f32 0x4F32D05E#32 : EReal) := rfl
  rw [h, e, lane_number]

/-- The least lane that has it, numbered from `w`. -/
def lanePlace (s : FVec Ideal S2048x1024 .f32) (w : BitVec 32) : IVec S2048x1 32 :=
  addi (fptosi 32 (shapeCast S2048x1 (multiReduction .minimumf [1] S2048 (marked s) 0x7F800000#32 reduces_S2048x1024_S2048 (.inl rfl) rfl)
    shapeCasts_S2048_S2048x1)) (broadcast S2048x1 w)

theorem lanePlace_apply (s : FVec Ideal S2048x1024 .f32) (w : BitVec 32) (i : Fin 2048) :
    lanePlace s w (qc i) = Ideal.fptosi 32 ((Finset.univ : Finset (Fin 1024)).fold min (⊤ : EReal)
      (fun k => Scalar.select (Ideal.cmp .oeq (s (ql i k)) (laneMax s (qc i))) (((k.val : ℕ) : ℝ) : EReal)
        (Scalar.ofBits (F := Ideal) .f32 0x4F32D05E#32 : EReal))) + w := by
  have h := (column (multiReduction .minimumf [1] S2048 (marked s) 0x7F800000#32 reduces_S2048x1024_S2048 (.inl rfl) rfl) shapeCasts_S2048_S2048x1 i).trans
    ((multiReduction_minimumf_eq_fold (marked s) 0x7F800000#32 reduces_S2048x1024_S2048 (.inl rfl) rfl (q1 i)).trans
      (reduces_S2048x1024_S2048.fold_filter_drop_single _ _ (marked s) (q1 i)))
  rw [pos_inf] at h
  refine (congrArg (Ideal.fptosi 32 · + w) h).trans ?_
  refine congrArg (Ideal.fptosi 32 · + w) (congrArg (Finset.fold min (⊤ : EReal) · Finset.univ) (funext fun k => ?_))
  exact (congrArg (marked s) (lift_lane i k)).trans (marked_apply s i k)

/-- A stretch's pair. -/
theorem stretch (s : FVec Ideal S2048x1024 .f32) (w : BitVec 32) (i : Fin 2048) (f : ℕ → EReal) (base : ℕ) (hw : w = BitVec.ofNat 32 base)
    (hs : ∀ l : Fin 1024, s (ql i l) = f (base + l.val)) : FirstMax f base (base + 1024) (laneMax s (qc i)) (lanePlace s w (qc i)) := by
  rw [lanePlace_apply, laneMax_apply]
  exact firstMax_lanes (by decide) (by decide) f base (fun l => s (ql i l)) hs _ large w hw

/-! ## A point -/

/-- A stretch's scores: the queries times its rows. -/
def prod (x : FVec Ideal S2048x9 .f32) (g : FVec Ideal S1024x9 .f32) : FVec Ideal S2048x1024 .f32 :=
  matmul dot_S2048x9_S1024x9_S2048x1024_1_1_0_0_n_n none x g (constant S2048x1024 .f32 0x00000000#32)

theorem prod_apply (x : FVec Ideal S2048x9 .f32) (g : FVec Ideal S1024x9 .f32) (i : Fin 2048) (l : Fin 1024) :
    prod x g (ql i l) = ∑ k : Fin 9, (x (ix2 i k) * g (ix2 l k) : EReal) := by
  have h : prod x g (ql i l) = _ := Ideal.matmul_constant_zero_apply dot_S2048x9_S1024x9_S2048x1024_1_1_0_0_n_n none x g (ql i l)
  rw [h, ← Equiv.sum_comp (contrEquiv1 dot_S2048x9_S1024x9_S2048x1024_1_1_0_0_n_n 9 rfl rfl).symm]
  refine Finset.sum_congr rfl fun k _ => ?_
  refine congrArg₂ (fun a b : EReal => a * b) (congrArg x ?_) (congrArg g ?_)
  · funext a
    match a with
    | 0 => rfl
    | 1 => rfl
  · funext a
    match a with
    | 0 => rfl
    | 1 => rfl

theorem part_apply (o : ℕ) (h : ∀ a, (![o, 0] : Fin 2 → ℕ) a + S1024x9.size a ≤ S4096x9.size a) (g : Vec Ideal S4096x9 .f32) (l : Fin 1024) (k : Fin 9)
    (hl : o + l.val < 4096) : part o h g (ix2 l k) = g (ix2 ⟨o + l.val, hl⟩ k) := by
  refine congrArg g (funext fun a => Fin.ext ?_)
  match a with
  | 0 => show o + 1 * l.val = o + l.val; omega
  | 1 => show 0 + 1 * k.val = k.val; omega

/-- The greater score. -/
def more (a b : FVec Ideal S2048x1 .f32) : FVec Ideal S2048x1 .f32 := select (cmpf .ogt b a) b a
/-- The place of the greater score. -/
def placed (a b : FVec Ideal S2048x1 .f32) (p q : IVec S2048x1 32) : IVec S2048x1 32 := select (cmpf .ogt b a) q p

theorem joined {f : ℕ → EReal} {lo mid hi : ℕ} {a b : FVec Ideal S2048x1 .f32} {p q : IVec S2048x1 32} {j : S2048x1.Idx}
    (h : FirstMax f lo mid (a j) (p j)) (h' : FirstMax f mid hi (b j) (q j)) : FirstMax f lo hi (more a b j) (placed a b p q j) := h.join h'

variable (x : Vec Ideal S2048x9 .f32) (g : Vec Ideal S4096x9 .f32) (co : grid0.Coords)

abbrev word0 : BitVec 32 := BitVec.ofNat 32 (co 0).val
/-- The number of a stretch's first row. -/
abbrev start (o : BitVec 32) : BitVec 32 := Scalar.addi (Scalar.muli (word0 co) 4096#32) o

theorem bestScore_eq : bestScore x g
    = more (more (more (laneMax (prod x (p0 g))) (laneMax (prod x (p1 g)))) (laneMax (prod x (p2 g)))) (laneMax (prod x (p3 g))) := by
  unfold bestScore k0_pay21 k0_pay20 k0_pay19 k0_pay18 k0_pay17 k0_pay16 k0_pay15 k0_pay14 k0_pay13 k0_pay12 k0_pay10 k0_pay9 k0_pay7 k0_pay6 k0_pay5
  simp only [shapeCast_self]
  rfl

theorem bestRow_eq : bestRow co x g
    = placed (more (more (laneMax (prod x (p0 g))) (laneMax (prod x (p1 g)))) (laneMax (prod x (p2 g)))) (laneMax (prod x (p3 g)))
        (placed (more (laneMax (prod x (p0 g))) (laneMax (prod x (p1 g)))) (laneMax (prod x (p2 g)))
          (placed (laneMax (prod x (p0 g))) (laneMax (prod x (p1 g))) (lanePlace (prod x (p0 g)) (start co 0#32)) (lanePlace (prod x (p1 g)) (start co 1024#32)))
          (lanePlace (prod x (p2 g)) (start co 2048#32)))
        (lanePlace (prod x (p3 g)) (start co 3072#32)) := by
  unfold bestRow k0_pay22 k0_pay20 k0_pay19 k0_pay18 k0_pay17 k0_pay16 k0_pay15 k0_pay14 k0_pay13 k0_pay12 k0_pay11 k0_pay10 k0_pay9 k0_pay8 k0_pay7 k0_pay6 k0_pay5
  simp only [shapeCast_self]
  rfl

theorem start_eq (o : ℕ) : start co (BitVec.ofNat 32 o) = BitVec.ofNat 32 ((co 0).val * 4096 + o) := by
  show BitVec.ofNat 32 (co 0).val * 4096#32 + BitVec.ofNat 32 o = _
  rw [BitVec.ofNat_add, BitVec.ofNat_mul]

/-- A point's pair. -/
theorem point (i : Fin 2048) (f : ℕ → EReal) (hf : ∀ r : Fin 4096, (∑ k : Fin 9, (x (ix2 i k) * g (ix2 r k) : EReal)) = f ((co 0).val * 4096 + r.val)) :
    FirstMax f ((co 0).val * 4096) ((co 0).val * 4096 + 4096) (bestScore x g (qc i)) (bestRow co x g (qc i)) := by
  have hs : ∀ (o : ℕ) (h : ∀ a, (![o, 0] : Fin 2 → ℕ) a + S1024x9.size a ≤ S4096x9.size a), o + 1024 ≤ 4096 →
      FirstMax f ((co 0).val * 4096 + o) ((co 0).val * 4096 + o + 1024) (laneMax (prod x (part o h g)) (qc i))
        (lanePlace (prod x (part o h g)) (start co (BitVec.ofNat 32 o)) (qc i)) := fun o h ho =>
    stretch _ _ i f _ (start_eq co o) fun l => by
      rw [prod_apply, Nat.add_assoc]
      rw [← hf ⟨o + l.val, by omega⟩]
      refine Finset.sum_congr rfl fun k _ => ?_
      rw [part_apply o h g l k (by omega)]
  rw [bestScore_eq, bestRow_eq]
  exact joined (joined (joined (hs 0 inb_S4096x9_S1024x9_0_0 (by decide)) (hs 1024 inb_S4096x9_S1024x9_1024_0 (by decide)))
    (hs 2048 inb_S4096x9_S1024x9_2048_0 (by decide))) (hs 3072 inb_S4096x9_S1024x9_3072_0 (by decide))

/-! ## The points -/

open Idealize.ShloMosaic.TcCoe

variable (A : (c : Dev nD) → (b : Ref sig .tc) → Buf (Elt Ideal) ((c : Thread nD τ).loc b)) (c : Dev nD)

theorem coord (t : Fin cfg0.N) : (grid0.coords t 0).val = t.val := by
  have : ∀ t : Fin grid0.N, (grid0.coords t 0).val = t.val := by decide +kernel
  exact this t

/-- The doubled queries with their last column. -/
def wide : S2048x9.Idx → EReal := A c main_v2

/-- The grid with its norms as last column. -/
def wideGrid : S65536x9.Idx → EReal := A c main_v4

/-- The queries' block is the whole of their array. -/
theorem blk_queries (t : Fin cfg0.N) (i : Fin 2048) (k : Fin 9) : blk A c 0 t (ix2 i k) = wide A c (ix2 i k) := by
  unfold blk
  rw [View.read_apply]
  refine congrArg (wide A c) (funext fun a => Fin.ext ?_)
  match a with
  | 0 => exact Pipeline.Window.rect_emb_val_of_index_zero win0_0 t 0 rfl (ix2 i k)
  | 1 => exact Pipeline.Window.rect_emb_val_of_index_zero win0_0 t 1 rfl (ix2 i k)

/-- The grid's block at point `t` is its rows from `4096 * t`. -/
theorem blk_grid (t : Fin cfg0.N) (r : Fin 4096) (k : Fin 9) (h : t.val * 4096 + r.val < 65536) :
    blk A c 1 t (ix2 r k) = wideGrid A c (ix2 ⟨t.val * 4096 + r.val, h⟩ k) := by
  unfold blk
  rw [View.read_apply]
  refine congrArg (wideGrid A c) (funext fun a => Fin.ext ?_)
  match a with
  | 0 =>
    refine (Pipeline.Window.rect_emb_val win0_1 t (ix2 r k) 0 rfl).trans ?_
    show (BitVec.ofNat 32 (grid0.coords t 0).val).toNat * 4096 + r.val = t.val * 4096 + r.val
    rw [coord, BitVec.toNat_ofNat, Nat.mod_eq_of_lt (by omega)]
  | 1 => exact Pipeline.Window.rect_emb_val_of_index_zero win0_1 t 1 rfl (ix2 r k)

theorem best_first (h : 0 < cfg0.N) : best A c 0 h = (bestScore (blk A c 0 ⟨0, h⟩) (blk A c 1 ⟨0, h⟩),
    bestRow (grid0.coords ⟨0, h⟩) (blk A c 0 ⟨0, h⟩) (blk A c 1 ⟨0, h⟩)) := by
  rw [best]

theorem best_score (n : ℕ) (h : n + 1 < cfg0.N) : (best A c (n + 1) h).1 =
    more (best A c n (Nat.lt_of_succ_lt h)).1 (bestScore (blk A c 0 ⟨n + 1, h⟩) (blk A c 1 ⟨n + 1, h⟩)) := by
  rw [best]
  unfold k0_pay3
  simp only [shapeCast_self]
  rfl

theorem best_row (n : ℕ) (h : n + 1 < cfg0.N) : (best A c (n + 1) h).2 =
    placed (best A c n (Nat.lt_of_succ_lt h)).1 (bestScore (blk A c 0 ⟨n + 1, h⟩) (blk A c 1 ⟨n + 1, h⟩))
      (best A c n (Nat.lt_of_succ_lt h)).2 (bestRow (grid0.coords ⟨n + 1, h⟩) (blk A c 0 ⟨n + 1, h⟩) (blk A c 1 ⟨n + 1, h⟩)) := by
  rw [best]
  unfold k0_pay4
  simp only [shapeCast_self]
  rfl

/-- What is held after point `n`: the pair of the rows up to that point's last. -/
theorem best_firstMax (i : Fin 2048) (f : ℕ → EReal)
    (hf : ∀ r : Fin 65536, (∑ k : Fin 9, wide A c (ix2 i k) * wideGrid A c (ix2 r k)) = f r.val) :
    ∀ (n : ℕ) (h : n < cfg0.N), FirstMax f 0 (n * 4096 + 4096) ((best A c n h).1 (qc i)) ((best A c n h).2 (qc i)) := by
  have hN : cfg0.N = 16 := rfl
  have hp : ∀ (n : ℕ) (h : n < cfg0.N), FirstMax f (n * 4096) (n * 4096 + 4096) (bestScore (blk A c 0 ⟨n, h⟩) (blk A c 1 ⟨n, h⟩) (qc i))
      (bestRow (grid0.coords ⟨n, h⟩) (blk A c 0 ⟨n, h⟩) (blk A c 1 ⟨n, h⟩) (qc i)) := fun n h => by
    have := point (blk A c 0 ⟨n, h⟩) (blk A c 1 ⟨n, h⟩) (grid0.coords ⟨n, h⟩) i f fun r => by
      rw [coord]
      have hr : n * 4096 + r.val < 65536 := by have := r.isLt; omega
      rw [← hf ⟨n * 4096 + r.val, hr⟩]
      exact Finset.sum_congr rfl fun k _ => congrArg₂ (fun a b : EReal => a * b) (blk_queries A c ⟨n, h⟩ i k) (blk_grid A c ⟨n, h⟩ r k hr)
    rwa [coord] at this
  intro n
  induction n with
  | zero =>
    intro h
    have h0 := hp 0 h
    rw [Nat.zero_mul] at h0
    have e := best_first A c h
    rw [Nat.zero_mul, congrArg Prod.fst e, congrArg Prod.snd e]
    dsimp only
    convert h0 using 1
  | succ n ih =>
    intro h
    have h1 := hp (n + 1) h
    rw [Nat.succ_mul] at h1
    rw [Nat.succ_mul, best_score, best_row]
    exact joined (ih (Nat.lt_of_succ_lt h)) h1

/-- What the grid call leaves: at each query the first row whose score is greatest. -/
theorem found_firstMax (i : Fin 2048) (f : ℕ → EReal)
    (hf : ∀ r : Fin 65536, (∑ k : Fin 9, wide A c (ix2 i k) * wideGrid A c (ix2 r k)) = f r.val) :
    FirstMax f 0 65536 ((best A c 15 last_lt).1 (qc i)) (found A c (qc i)) := by
  have h := best_firstMax A c i f hf 15 last_lt
  rw [show 15 * 4096 + 4096 = 65536 by norm_num] at h
  exact h

end Cert.Proof.Whole

end
-- ==== Proof.RefRun.lean ====
/-
  The reference's run: its @main as the list of the host operations it is, and the arrays it ends with. Each row of the
  first argument is scored against every row of the table, the place of the greatest score is kept, and the table's rows
  at those places are taken.
-/
module

public import proofs.«01_k».proof.Defs
public import proofs.«01_k».proof.Proof.Gen.ReferenceIdeal
public import proofs.«01_k».proof.Proof.TakeValue
public import Idealize.ShloMosaic.Lib.StableHlo.Run
public import Idealize.ShloMosaic.Lib.Quiescent

@[expose] public section

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

/-- Every row's score against every row of the table. -/
abbrev scores (x : FVec F S2048x8 .f32) (g : FVec F S65536x8 .f32) (n : FVec F S65536 .f32) : FVec F S2048x65536 .f32 :=
  subf (mulf (broadcastInDim S2048x65536 ![] bcast_S_S2048x65536 (constant S_ .f32 0x40000000#32))
      (Host.dotGeneral dot_S2048x8_S8x65536_S2048x65536_1_0_0_1_n_n none x (transpose S8x65536 [1, 0] g transposes_S65536x8_S8x65536_1_0)))
    (broadcastInDim S2048x65536 ![0, 1] bcast_S1x65536_S2048x65536_0_1 (broadcastInDim S1x65536 ![1] bcast_S65536_S1x65536_1 n))

/-- The greatest of each row of scores, with its place. -/
abbrev chosen (s : FVec F S2048x65536 .f32) (j : S2048.Idx) : F .f32 × BitVec 32 :=
  Host.argReduce reducer_argmax_f32_i32 s (iotaInDim S2048x65536 32 1) (constant S_ .f32 0xFF800000#32) (constantI S_ 32 0#32)
    reducesTo_S2048x65536_S2048_d1 h_S_ j

/-- The place of the greatest of each row of scores. -/
abbrev places (s : FVec F S2048x65536 .f32) : IVec S2048 32 := fun j => (chosen s j).2

/-- @main's operations, in order; a call's stand where the call does. -/
abbrev ops : List (HloOp τ sig (Elt F)) :=
  [ unary main_arg1 main_v0 ((transpose S8x65536 [1, 0] · transposes_S65536x8_S8x65536_1_0) : (⟨S65536x8, .f32⟩ : BufTy).Contents (Elt F) → (⟨S8x65536, .f32⟩ : BufTy).Contents (Elt F)),
    binary main_arg0 main_v0 main_v1 ((fun l r => Host.dotGeneral dot_S2048x8_S8x65536_S2048x65536_1_0_0_1_n_n none l r) : (⟨S2048x8, .f32⟩ : BufTy).Contents (Elt F) → (⟨S8x65536, .f32⟩ : BufTy).Contents (Elt F) → (⟨S2048x65536, .f32⟩ : BufTy).Contents (Elt F)),
    nullary main_cst (constant S_ .f32 0x40000000#32),
    unary main_cst main_v2 (broadcastInDim S2048x65536 ![] bcast_S_S2048x65536 : (⟨S_, .f32⟩ : BufTy).Contents (Elt F) → (⟨S2048x65536, .f32⟩ : BufTy).Contents (Elt F)),
    binary main_v2 main_v1 main_v3 (mulf : (⟨S2048x65536, .f32⟩ : BufTy).Contents (Elt F) → (⟨S2048x65536, .f32⟩ : BufTy).Contents (Elt F) → (⟨S2048x65536, .f32⟩ : BufTy).Contents (Elt F)),
    unary main_arg2 main_v4 (broadcastInDim S1x65536 ![1] bcast_S65536_S1x65536_1 : (⟨S65536, .f32⟩ : BufTy).Contents (Elt F) → (⟨S1x65536, .f32⟩ : BufTy).Contents (Elt F)),
    unary main_v4 main_v5 (broadcastInDim S2048x65536 ![0, 1] bcast_S1x65536_S2048x65536_0_1 : (⟨S1x65536, .f32⟩ : BufTy).Contents (Elt F) → (⟨S2048x65536, .f32⟩ : BufTy).Contents (Elt F)),
    binary main_v3 main_v5 main_v6 (subf : (⟨S2048x65536, .f32⟩ : BufTy).Contents (Elt F) → (⟨S2048x65536, .f32⟩ : BufTy).Contents (Elt F) → (⟨S2048x65536, .f32⟩ : BufTy).Contents (Elt F)),
    TRef.nullary (.of (T := ⟨S2048x65536, .i32⟩) main_call0_v0) (iotaInDim S2048x65536 32 1),
    TRef.nullary (.of (T := ⟨S_, .f32⟩) main_call0_cst) (constant S_ .f32 0xFF800000#32),
    TRef.nullary (.of (T := ⟨S_, .i32⟩) main_call0_c) (constantI S_ 32 0#32),
    TRef.quaternary (.of (T := ⟨S2048x65536, .f32⟩) main_v6) (.of (T := ⟨S2048x65536, .i32⟩) main_call0_v0) (.of (T := ⟨S_, .f32⟩) main_call0_cst) (.of (T := ⟨S_, .i32⟩) main_call0_c) (.of (T := ⟨S2048, .f32⟩) main_call0_v1_0) (fun x y u v j => (Host.argReduce reducer_argmax_f32_i32 x y u v reducesTo_S2048x65536_S2048_d1 h_S_ j).1),
    TRef.quaternary (.of (T := ⟨S2048x65536, .f32⟩) main_v6) (.of (T := ⟨S2048x65536, .i32⟩) main_call0_v0) (.of (T := ⟨S_, .f32⟩) main_call0_cst) (.of (T := ⟨S_, .i32⟩) main_call0_c) (.of (T := ⟨S2048, .i32⟩) main_v7) (fun x y u v j => (Host.argReduce reducer_argmax_f32_i32 x y u v reducesTo_S2048x65536_S2048_d1 h_S_ j).2),
    TRef.nullary (.of (T := ⟨S_, .i32⟩) main_call1_c) (constantI S_ 32 0#32),
    TRef.unary (.of (T := ⟨S_, .i32⟩) main_call1_c) (.of (T := ⟨S2048, .i32⟩) main_call1_v0) (broadcastInDim S2048 ![] bcast_S_S2048),
    TRef.binary (.of (T := ⟨S2048, .i32⟩) main_v7) (.of (T := ⟨S2048, .i32⟩) main_call1_v0) (.of (T := ⟨S2048, .i1⟩) main_call1_v1) (cmpi .slt),
    TRef.nullary (.of (T := ⟨S_, .i32⟩) main_call1_c_0) (constantI S_ 32 65536#32),
    TRef.unary (.of (T := ⟨S_, .i32⟩) main_call1_c_0) (.of (T := ⟨S2048, .i32⟩) main_call1_v2) (broadcastInDim S2048 ![] bcast_S_S2048),
    TRef.binary (.of (T := ⟨S2048, .i32⟩) main_v7) (.of (T := ⟨S2048, .i32⟩) main_call1_v2) (.of (T := ⟨S2048, .i32⟩) main_call1_v3) addi,
    TRef.ternary (.of (T := ⟨S2048, .i1⟩) main_call1_v1) (.of (T := ⟨S2048, .i32⟩) main_call1_v3) (.of (T := ⟨S2048, .i32⟩) main_v7) (.of (T := ⟨S2048, .i32⟩) main_call1_v4) select,
    TRef.unary (.of (T := ⟨S2048, .i32⟩) main_call1_v4) (.of (T := ⟨S2048x1, .i32⟩) main_call1_v5) (broadcastInDim S2048x1 ![0] bcast_S2048_S2048x1_0),
    TRef.nullary (.of (T := ⟨S1, .i32⟩) main_call1_c_1) (constantI S1 32 65535#32),
    TRef.nullary (.of (T := ⟨S_, .i32⟩) main_call1_c_2) (constantI S_ 32 0#32),
    TRef.unary (.of (T := ⟨S_, .i32⟩) main_call1_c_2) (.of (T := ⟨S2048x1, .i32⟩) main_call1_v6) (broadcastInDim S2048x1 ![] bcast_S_S2048x1),
    TRef.binary (.of (T := ⟨S2048x1, .i32⟩) main_call1_v5) (.of (T := ⟨S2048x1, .i32⟩) main_call1_v6) (.of (T := ⟨S2048x1, .i1⟩) main_call1_v7) (cmpi .sge),
    TRef.unary (.of (T := ⟨S1, .i32⟩) main_call1_c_1) (.of (T := ⟨S1x1, .i32⟩) main_call1_v8) (broadcastInDim S1x1 ![1] bcast_S1_S1x1_1),
    TRef.unary (.of (T := ⟨S1x1, .i32⟩) main_call1_v8) (.of (T := ⟨S2048x1, .i32⟩) main_call1_v9) (broadcastInDim S2048x1 ![0, 1] bcast_S1x1_S2048x1_0_1),
    TRef.binary (.of (T := ⟨S2048x1, .i32⟩) main_call1_v5) (.of (T := ⟨S2048x1, .i32⟩) main_call1_v9) (.of (T := ⟨S2048x1, .i1⟩) main_call1_v10) (cmpi .sle),
    TRef.binary (.of (T := ⟨S2048x1, .i1⟩) main_call1_v7) (.of (T := ⟨S2048x1, .i1⟩) main_call1_v10) (.of (T := ⟨S2048x1, .i1⟩) main_call1_v11) andi,
    TRef.nullary (.of (T := ⟨S_, .i1⟩) main_call1_c_3) (constantI S_ 1 1#1),
    TRef.binary (.of (T := ⟨S2048x1, .i1⟩) main_call1_v11) (.of (T := ⟨S_, .i1⟩) main_call1_c_3) (.of (T := ⟨S2048, .i1⟩) main_call1_v12) (fun x v => Host.reduce IntOp.andi x v reducesTo_S2048x1_S2048_d1 h_S_),
    TRef.binary (.of (T := ⟨S65536x8, .f32⟩) main_arg1) (.of (T := ⟨S2048x1, .i32⟩) main_call1_v5) (.of (T := ⟨S2048x8, .f32⟩) main_call1_v13) (fun x i => Host.gather gather_S65536x8_S2048x1_S2048x8_1_0_n_n_0_1_18 x i),
    TRef.unary (.of (T := ⟨S2048, .i1⟩) main_call1_v12) (.of (T := ⟨S2048x8, .i1⟩) main_call1_v14) (broadcastInDim S2048x8 ![0] bcast_S2048_S2048x8_0),
    TRef.nullary (.of (T := ⟨S_, .f32⟩) main_call1_cst) (constant S_ .f32 0x7FC00000#32),
    TRef.unary (.of (T := ⟨S_, .f32⟩) main_call1_cst) (.of (T := ⟨S2048x8, .f32⟩) main_call1_v15) (broadcastInDim S2048x8 ![] bcast_S_S2048x8),
    TRef.ternary (.of (T := ⟨S2048x8, .i1⟩) main_call1_v14) (.of (T := ⟨S2048x8, .f32⟩) main_call1_v13) (.of (T := ⟨S2048x8, .f32⟩) main_call1_v15) (.of (T := ⟨S2048x8, .f32⟩) main_v8) select ]

theorem main_seq (c : Dev nD) : main (F := F) c = seq ops := rfl

theorem no_refs : (Finset.univ.filter fun b : Ref sig .tc => b.isScoped) = ∅ := by decide
theorem no_sems : (Finset.univ.filter fun s : SemLoc sig => s.isScoped .tc) = ∅ := by decide

theorem ops_sub : (ops : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

set_option maxHeartbeats 4000000 in
/-- The reference ends with its arguments as they were, the places of the greatest scores, and the table's rows there. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8) = Take.taken (m ((c.tc : Thread nD τ).loc main_arg1))
          (places (scores (m ((c.tc : Thread nD τ).loc main_arg0)) (m ((c.tc : Thread nD τ).loc main_arg1)) (m ((c.tc : Thread nD τ).loc main_arg2))))
      ∧ r.2.mem ((c.tc : Thread nD τ).loc main_v7)
          = places (scores (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c main_v8).trans ?_, (h c main_v7).trans ?_, (h c main_arg0).trans ?_, (h c main_arg1).trans ?_,
    (h c main_arg2).trans ?_⟩) (run_seq no_refs no_sems defs main (fun _ => ops) main_seq (fun _ => ops_sub) m ρ)
  all_goals
    simp only [ops, TRef.quaternary, TRef.ternary, TRef.binary, TRef.unary, TRef.nullary, TRef.toBuf, TRef.ofBuf, cast_eq]
    after_results <;> rfl

end Cert.Proof.Ref

end
-- ==== Proof.RefValue.lean ====
/-
  The reference's places: at each query the first row of the table whose score is greatest. Its fold over a row of scores
  is a fold over a list of score and place, and its scores are twice the product less the norm.
-/
module

public import proofs.«01_k».proof.Proof.FirstMax
public import proofs.«01_k».proof.Proof.RefRun
public import Idealize.ShloMosaic.Lib.ValueIdx
public import Idealize.ShloMosaic.Lib.Pipeline.Value

@[expose] public section

noncomputable section

namespace Cert.Proof.Ref

open Cert.ReferenceIdeal Cert.ReferenceIdeal.Gen Cert.Proof.First
open Idealize.ShloMosaic ValueIdx

/-- The word the product is scaled by is two. -/
theorem two_word : (Scalar.ofBits .f32 0x40000000#32 : Ideal .f32) = (2 : EReal) := by
  show Ideal.ofBits .f32 0x40000000#32 = (2 : EReal)
  rw [show (2 : EReal) = ((2 : ℝ) : EReal) by norm_cast]
  simp [Ideal.ofBits, Ideal.ieee, -EReal.coe_mul]
  norm_num

/-- A query's product with a row of the table. -/
theorem product_apply (x : FVec Ideal S2048x8 .f32) (g : FVec Ideal S65536x8 .f32) (i : Fin 2048) (r : Fin 65536) :
    (Host.dotGeneral dot_S2048x8_S8x65536_S2048x65536_1_0_0_1_n_n none x (transpose S8x65536 [1, 0] g transposes_S65536x8_S8x65536_1_0)
      : FVec Ideal S2048x65536 .f32) (ix2 i r) = ∑ k : Fin 8, (x (ix2 i k) * g (ix2 r k) : EReal) := by
  simp only [Host.dotGeneral, Host.dotGeneralAt]
  rw [Ideal.dotGeneral_apply, ← Equiv.sum_comp (contrEquiv1 dot_S2048x8_S8x65536_S2048x65536_1_0_0_1_n_n 8 rfl rfl).symm]
  refine Finset.sum_congr rfl fun k _ => ?_
  refine congrArg₂ (fun a b : EReal => a * b) (congrArg x ?_) ?_
  · funext a
    match a with
    | 0 => rfl
    | 1 => rfl
  · refine transpose_apply _ g _ _ (ix2 r k) fun b => ?_
    match b with
    | 0 => rfl
    | 1 => rfl

/-- The norms, spread over the queries. -/
theorem norms_apply (n : FVec Ideal S65536 .f32) (i : Fin 2048) (r : Fin 65536) :
    broadcastInDim S2048x65536 ![0, 1] bcast_S1x65536_S2048x65536_0_1 (broadcastInDim S1x65536 ![1] bcast_S65536_S1x65536_1 n) (ix2 i r) = n (ix1 r) := by
  refine (broadcastInDim_apply _ _ _ _ (ix2 (0 : Fin 1) r) fun a => ?_).trans (broadcastInDim_apply _ _ _ _ (ix1 r) fun a => ?_)
  · match a with
    | 0 => rfl
    | 1 => rfl
  · match a with
    | 0 => rfl

theorem scores_apply (x : FVec Ideal S2048x8 .f32) (g : FVec Ideal S65536x8 .f32) (n : FVec Ideal S65536 .f32) (i : Fin 2048) (r : Fin 65536) :
    scores x g n (ix2 i r) = 2 * (∑ k : Fin 8, (x (ix2 i k) * g (ix2 r k) : EReal)) - n (ix1 r) := by
  refine congrArg₂ (fun a b : EReal => a - b) (congrArg₂ (fun a b : EReal => a * b) ?_ (product_apply x g i r)) (norms_apply n i r)
  exact two_word

theorem keep_is : (reducer_argmax_f32_i32 (F := Ideal) : EReal × BitVec 32 → EReal × BitVec 32 → EReal × BitVec 32) = keep := rfl

theorem reduces_scores : S2048x65536.Reduces [1] S2048 := by decide

theorem lift_row (i : Fin 2048) (r : Fin 65536) : reduces_scores.lift (ix1 i) r = ix2 i r := by
  funext a
  match a with
  | 0 => rfl
  | 1 => rfl

/-- The list a row of scores is folded over holds every score of the row with its place. -/
theorem mem_fiber (s : FVec Ideal S2048x65536 .f32) (i : Fin 2048) (f : ℕ → EReal) (hf : ∀ r : Fin 65536, s (ix2 i r) = f r.val)
    (p : EReal × BitVec 32) :
    p ∈ Host.argReduceFiber s (iotaInDim S2048x65536 32 1) reducesTo_S2048x65536_S2048_d1 (ix1 i)
      ↔ ∃ r, r < 65536 ∧ p = (f r, BitVec.ofNat 32 r) := by
  unfold Host.argReduceFiber
  rw [Shape.ReducesTo.drop_eq_drop reducesTo_S2048x65536_S2048_d1 reduces_scores]
  simp only [List.mem_map, List.mem_filter, List.mem_finRange, true_and, decide_eq_true_eq]
  constructor
  · rintro ⟨n, hn, rfl⟩
    have hl : (ix2 i (S2048x65536.rowMajor.symm n 1 : Fin 65536) : S2048x65536.Idx) = S2048x65536.rowMajor.symm n :=
      (lift_row i _).symm.trans ((congrArg (fun j => reduces_scores.lift j (S2048x65536.rowMajor.symm n 1)) hn.symm).trans (reduces_scores.lift_drop _))
    refine ⟨(S2048x65536.rowMajor.symm n 1).val, (S2048x65536.rowMajor.symm n 1).isLt, Prod.ext ?_ rfl⟩
    exact (congrArg s hl.symm).trans (hf _)
  · rintro ⟨r, hr, rfl⟩
    refine ⟨S2048x65536.rowMajor (ix2 i ⟨r, hr⟩), ?_, ?_⟩
    · rw [Equiv.symm_apply_apply, ← lift_row]; exact reduces_scores.drop_lift _ _
    · rw [Equiv.symm_apply_apply]; exact Prod.ext (hf ⟨r, hr⟩) rfl

theorem low_word : (Scalar.ofBits .f32 0xFF800000#32 : Ideal .f32) = (⊥ : EReal) := by
  show Ideal.ofBits .f32 0xFF800000#32 = (⊥ : EReal)
  simp [Ideal.ofBits, Ideal.ieee]

theorem fold_keep {l : List (EReal × BitVec 32)} {f : EReal × BitVec 32 → EReal × BitVec 32 → EReal × BitVec 32} {a : EReal} {b : BitVec 32}
    {p : EReal × BitVec 32} (e : p = l.foldl f (a, b)) (hf : f = keep) (ha : a = ⊥) (hb : b = 0#32) (h : ℕ → EReal)
    (hl : FirstMax h 0 65536 (l.foldl keep (⊥, 0#32)).1 (l.foldl keep (⊥, 0#32)).2) : ∃ v, FirstMax h 0 65536 v p.2 := by
  subst hf ha hb e
  exact ⟨_, hl⟩

theorem chosen_fold (s : FVec Ideal S2048x65536 .f32) (j : S2048.Idx) : chosen s j =
    (Host.argReduceFiber s (iotaInDim S2048x65536 32 1) reducesTo_S2048x65536_S2048_d1 j).foldl reducer_argmax_f32_i32
      ((constant S_ .f32 0xFF800000#32 : FVec Ideal S_ .f32) (Shape.Idx.first h_S_), constantI S_ 32 0#32 (Shape.Idx.first h_S_)) := by
  unfold chosen
  rw [Ideal.argReduce_eq_reduce2, Host.reduce2_eq_foldl_fiber]

theorem const_low (j : S_.Idx) : (constant S_ .f32 0xFF800000#32 : FVec Ideal S_ .f32) j = (⊥ : EReal) := low_word

theorem chosen_firstMax (s : FVec Ideal S2048x65536 .f32) (i : Fin 2048) (f : ℕ → EReal) (hf : ∀ r : Fin 65536, s (ix2 i r) = f r.val) :
    ∃ v, FirstMax f 0 65536 v (chosen s (ix1 i)).2 :=
  fold_keep (chosen_fold s (ix1 i)) keep_is (const_low _) rfl f (firstMax_foldl f _ (mem_fiber s i f hf))

theorem places_def (s : FVec Ideal S2048x65536 .f32) : places s = fun j => (chosen s j).2 := rfl

/-- What the reference's places are. -/
theorem places_firstMax (s : FVec Ideal S2048x65536 .f32) (i : Fin 2048) (f : ℕ → EReal) (hf : ∀ r : Fin 65536, s (ix2 i r) = f r.val) :
    ∃ v, FirstMax f 0 65536 v (places s (ix1 i)) := by
  rw [places_def]
  exact chosen_firstMax s i f hf

end Cert.Proof.Ref

end
-- ==== Proof.WholeValue.lean ====
/-
  The two sides' values: the grid call's product of the widened queries and the widened grid is the reference's score, so
  both find the first row whose score is greatest, and both take that row of the grid. With it the claims about the whole
  kernel.
-/
module

public import proofs.«01_k».proof.Defs
public import proofs.«01_k».proof.Proof.WholeRun
public import proofs.«01_k».proof.Proof.ScanValue
public import proofs.«01_k».proof.Proof.RefValue
public import proofs.«01_k».proof.Proof.GatherValue

@[expose] public section

noncomputable section

namespace Cert.Proof.Whole

open Cert.KernelIdeal Cert.KernelIdeal.Gen Cert.Proof.First
open Idealize.ShloMosaic Idealize.ShloMosaic.TcCoe Idealize.ShloMosaic.StableHlo Idealize.SL.Sem ValueIdx

variable (m : (ℓ : Loc nD τ sig) → Buf (Elt Ideal) ℓ) (d : Dev nD)

/-- The queries. -/
def qs : FVec Ideal S2048x8 .f32 := m ((SparseCore.T d).loc main_arg0)
/-- The grid. -/
def gs : FVec Ideal S65536x8 .f32 := m ((SparseCore.T d).loc main_arg1)
/-- The norms. -/
def ns : FVec Ideal S65536 .f32 := m ((SparseCore.T d).loc main_arg2)

/-- The queries doubled, with minus ones as last column. -/
def wideOf (x : FVec Ideal S2048x8 .f32) : FVec Ideal S2048x9 .f32 :=
  concatenate S2048x9 1 [⟨S2048x8, addf x x⟩, ⟨S2048x1, broadcastInDim S2048x1 ![] bcast_S_S2048x1 (constant S_ .f32 0xBF800000#32)⟩]
    concatenates_S2048x8_S2048x1_S2048x9_d1
/-- The grid, with the norms as last column. -/
def wideGridOf (g : FVec Ideal S65536x8 .f32) (n : FVec Ideal S65536 .f32) : FVec Ideal S65536x9 .f32 :=
  concatenate S65536x9 1 [⟨S65536x8, g⟩, ⟨S65536x1, broadcastInDim S65536x1 ![0] bcast_S65536_S65536x1_0 n⟩]
    concatenates_S65536x8_S65536x1_S65536x9_d1

theorem wide_is : wide (Ain m) d = wideOf (qs m d) := by
  unfold wide Ain W1; after_results <;> rfl
theorem wideGrid_is : wideGrid (Ain m) d = wideGridOf (gs m d) (ns m d) := by
  unfold wideGrid Ain W1; after_results <;> rfl

theorem minus_one : (Scalar.ofBits .f32 0xBF800000#32 : Ideal .f32) = (-1 : EReal) := by
  show Ideal.ofBits .f32 0xBF800000#32 = (-1 : EReal)
  rw [show (-1 : EReal) = ((-1 : ℝ) : EReal) by rw [EReal.coe_neg, EReal.coe_one]]
  simp [Ideal.ofBits, Ideal.ieee, -EReal.coe_mul]
  norm_num

theorem wideOf_body (x : FVec Ideal S2048x8 .f32) (i : Fin 2048) (k : Fin 8) : wideOf x (ix2 i k.castSucc) = (x (ix2 i k) + x (ix2 i k) : EReal) :=
  concatenate_pair_apply_left 1 (addf x x) _ concatenates_S2048x8_S2048x1_S2048x9_d1 (ix2 i k.castSucc) rfl (ix2 i k) (fun b => match b with
    | 0 => rfl
    | 1 => rfl)
theorem wideOf_last (x : FVec Ideal S2048x8 .f32) (i : Fin 2048) : wideOf x (ix2 i (Fin.last 8)) = (-1 : EReal) :=
  (concatenate_pair_apply_right 1 (addf x x) _ concatenates_S2048x8_S2048x1_S2048x9_d1 (ix2 i (Fin.last 8)) rfl rfl (ix2 i (0 : Fin 1)) (fun b hb => match b with
    | 0 => rfl
    | 1 => absurd rfl hb) rfl).trans minus_one
theorem wideGridOf_body (g : FVec Ideal S65536x8 .f32) (n : FVec Ideal S65536 .f32) (r : Fin 65536) (k : Fin 8) :
    wideGridOf g n (ix2 r k.castSucc) = g (ix2 r k) :=
  concatenate_pair_apply_left 1 g _ concatenates_S65536x8_S65536x1_S65536x9_d1 (ix2 r k.castSucc) rfl (ix2 r k) (fun b => match b with
    | 0 => rfl
    | 1 => rfl)
theorem wideGridOf_last (g : FVec Ideal S65536x8 .f32) (n : FVec Ideal S65536 .f32) (r : Fin 65536) :
    wideGridOf g n (ix2 r (Fin.last 8)) = n (ix1 r) :=
  (concatenate_pair_apply_right 1 g _ concatenates_S65536x8_S65536x1_S65536x9_d1 (ix2 r (Fin.last 8)) rfl rfl (ix2 r (0 : Fin 1)) (fun b hb => match b with
    | 0 => rfl
    | 1 => absurd rfl hb) rfl).trans (broadcastInDim_apply _ _ n _ (ix1 r) fun b => match b with
    | 0 => rfl)

/-- One product carries the reference's score. -/
theorem score (x : FVec Ideal S2048x8 .f32) (g : FVec Ideal S65536x8 .f32) (n : FVec Ideal S65536 .f32) (i : Fin 2048) (r : Fin 65536) :
    (∑ k : Fin 9, (wideOf x (ix2 i k) * wideGridOf g n (ix2 r k) : EReal)) = Ref.scores x g n (ix2 i r) := by
  refine (Fin.sum_univ_castSucc _).trans ?_
  refine Eq.trans ?_ (Ref.scores_apply x g n i r).symm
  refine Eq.trans ?_ (sum_doubled (fun k : Fin 8 => (x (ix2 i k) : EReal)) (fun k => g (ix2 r k)) (n (ix1 r)))
  refine congrArg₂ (fun a b : EReal => a + b) (Finset.sum_congr rfl fun k _ => ?_) ?_
  · exact congrArg₂ (fun a b : EReal => a * b) (wideOf_body x i k) (wideGridOf_body g n r k)
  · exact congrArg₂ (fun a b : EReal => a * b) (wideOf_last x i) (wideGridOf_last g n r)

/-- A query's scores, by the rows' numbers. -/
def along (s : FVec Ideal (⟨2, ![2048, 65536]⟩ : Shape) .f32) (i : Fin 2048) (r : ℕ) : EReal := if h : r < 65536 then s (ix2 i ⟨r, h⟩) else 0

theorem along_row (s : FVec Ideal (⟨2, ![2048, 65536]⟩ : Shape) .f32) (i : Fin 2048) (r : Fin 65536) : s (ix2 i r) = along s i r.val := by
  unfold along; rw [dif_pos r.isLt]

/-- The reference's scores of what the kernel is given. -/
def sc : FVec Ideal (⟨2, ![2048, 65536]⟩ : Shape) .f32 := Ref.scores (qs m d) (gs m d) (ns m d)

/-- What the grid call finds at a query. -/
theorem found_is (i : Fin 2048) : FirstMax (along (sc m d) i) 0 65536 ((best (Ain m) d 15 last_lt).1 (qc i)) (found (Ain m) d (qc i)) :=
  found_firstMax (Ain m) d i _ fun r => by
    rw [wide_is, wideGrid_is]
    exact (score (qs m d) (gs m d) (ns m d) i r).trans (along_row (sc m d) i r)

theorem ixOf_apply (i : Fin 2048) : ixOf m d (ix1 i) = found (Ain m) d (qc i) := by
  refine shapeCast_apply _ shapeCasts_S2048x1_S2048 _ _ ?_
  rw [Shape.rowMajor_val_two, Shape.rowMajor_val_one (d := ![2048])]
  show i.val * 1 + 0 = i.val
  omega

theorem ixOf_places_at (i : Fin 2048) : ixOf m d (ix1 i) = Ref.places (sc m d) (ix1 i) := by
  obtain ⟨v, hv⟩ := Ref.places_firstMax (sc m d) i _ (along_row (sc m d) i)
  exact (ixOf_apply m d i).trans (FirstMax.unique (found_is m d i) hv)

/-- The two sides' lists of rows are one. -/
theorem ixOf_places : ixOf m d = Ref.places (sc m d) := by
  funext j
  obtain ⟨i, rfl⟩ : ∃ i : Fin 2048, j = ix1 i := ⟨j 0, eq_ix1 j⟩
  exact ixOf_places_at m d i

theorem in_rows (j : S2048.Idx) : (ixOf m d j).toNat < 65536 := by
  obtain ⟨i, rfl⟩ : ∃ i : Fin 2048, j = ix1 i := ⟨j 0, eq_ix1 j⟩
  have h := (found_is m d i).word (by norm_num)
  rwa [← ixOf_apply] at h

/-- The two sides' rows taken are one. -/
theorem resOf_taken : resOf m d = Take.taken (gs m d) (Ref.places (sc m d)) := by
  rw [← ixOf_places, Take.taken_eq _ _ (in_rows m d)]
  exact Gather.outVal_rows (gs m d) (ixOf m d) (in_rows m d) _ _

/-! ## The claims -/

theorem frame_kernel : Cert.quiescent_KernelIdeal := fun m ρ _ =>
  (θ_run Cert.KernelIdeal.defs Cert.KernelIdeal.threads _).mono (fun _ h => ⟨fun c => ⟨(h.1 c).1, (h.1 c).2.1, (h.1 c).2.2.1⟩, h.2⟩)
    (run_main m ρ fun d j => in_rows m d j)

theorem frame_reference : Cert.quiescent_ReferenceIdeal := fun m ρ _ =>
  (θ_run Cert.ReferenceIdeal.defs _ _).mono (fun r h => ⟨fun c => (h c).2.2, sem_eq_zero_of_no_sems (by decide) r.2⟩) (Ref.run_ref m ρ)

theorem algebraic : Cert.algebraic_KernelIdeal_ReferenceIdeal := fun m ρ m' ρ' _ hag =>
  ⟨fun c => resOf m c, fun c => ixOf m c,
    (θ_run Cert.KernelIdeal.defs Cert.KernelIdeal.threads _).mono
      (fun _ h c => ⟨(h.1 c).2.2.2.2, (h.1 c).2.2.2.1, (h.1 c).1, (h.1 c).2.1, (h.1 c).2.2.1⟩) (run_main m ρ fun d j => in_rows m d j),
    (θ_run Cert.ReferenceIdeal.defs _ _).mono (fun r h c => by
      obtain ⟨hv, hp, h0, h1, h2⟩ := h c
      rw [(hag c).1, (hag c).2.1, (hag c).2.2] at hv hp
      exact ⟨hv.trans (resOf_taken m c).symm, hp.trans (ixOf_places m c).symm, h0, h1, h2⟩)
      (Ref.run_ref m' ρ')⟩

end Cert.Proof.Whole

end
-- ==== Proof.lean ====
/-
  The proof of `Cert.Claim`: the whole kernel's frame and values against the reference's (Proof/WholeValue.lean), the
  SparseCore gather's by itself (Proof/GatherValue.lean), and the TensorCore scan's frame.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Gather
public import proofs.«01_k».proof.Proof.Gen.Gather.Skeleton
public import proofs.«01_k».proof.Proof.Gen.GatherReference
public import proofs.«01_k».proof.Proof.Gen.Scan
public import proofs.«01_k».proof.Proof.Gen.Scan.Frame
public import proofs.«01_k».proof.Proof.Gen.Pre_idx_in_rows
public import proofs.«01_k».proof.Proof.GatherValue
public import proofs.«01_k».proof.Proof.WholeValue

@[expose] public section

noncomputable section

namespace Cert.Proof

open Idealize.ShloMosaic Idealize.SL.Sem

theorem claim : Cert.Claim := ⟨Cert.KernelIdeal.Gen.facts, Cert.ReferenceIdeal.Gen.facts, Cert.Gather.Gen.facts, Cert.GatherReference.Gen.facts,
  Cert.Scan.Gen.facts, Cert.Pre_idx_in_rows.Gen.facts, Whole.frame_kernel, Whole.frame_reference, Gather.frame_gather, Gather.frame_reference,
  fun m ρ _ => Cert.Scan.Gen.frame m ρ, Whole.algebraic, Gather.bitexact⟩

end Cert.Proof

end
